-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def preserves_Reference_ReferenceIdeal : Prop :=
  IdealRules.named_const.Statement Cert.ReferenceIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S2x896x30x96 : Shape := ⟨4, ![2, 896, 30, 96]⟩
abbrev S2x896x30 : Shape := ⟨3, ![2, 896, 30]⟩
abbrev S32x960x128 : Shape := ⟨3, ![32, 960, 128]⟩
abbrev S2x896 : Shape := ⟨2, ![2, 896]⟩
abbrev S_ : Shape := ⟨0, ![]⟩

class Facts : Prop where
  bcast_S_S2x896x30x96 : S_.BroadcastsInDim S2x896x30x96 (![] : Fin 0 → Fin S2x896x30x96.rank)
  bcast_S_S2x896x30 : S_.BroadcastsInDim S2x896x30 (![] : Fin 0 → Fin S2x896x30.rank)
  bcast_S_S32x960x128 : S_.BroadcastsInDim S32x960x128 (![] : Fin 0 → Fin S32x960x128.rank)

variable [Facts]

def fn {F : FTy → Type} [FloatOps F] (main_arg0 : FVec F S2x896x30x96 .f32) (main_arg1 : FVec F S2x896x30 .f32) (main_arg2 : FVec F S2x896x30x96 .f32) (main_arg3 : FVec F S2x896x30 .f32) (main_arg4 : FVec F S2x896x30x96 .f32) (main_arg5 : FVec F S32x960x128 .f32) (main_arg6 : FVec F S2x896x30x96 .bf16) (main_arg7 : IVec S2x896 32) : IVec S2x896x30x96 1 × IVec S2x896x30 1 × IVec S2x896x30x96 1 × IVec S2x896x30 1 × IVec S2x896x30x96 1 × IVec S32x960x128 1 :=
  let main_v0 : FVec F S2x896x30x96 .f32 := Host.absf main_arg0
  let main_cst : FVec F S_ .f32 := constant S_ .f32 0x7F800000#32
  let main_v1 : FVec F S2x896x30x96 .f32 := broadcastInDim S2x896x30x96 ![] bcast_S_S2x896x30x96 main_cst
  let main_v2 : IVec S2x896x30x96 1 := cmpf .olt main_v0 main_v1
  let main_v3 : FVec F S2x896x30 .f32 := Host.absf main_arg1
  let main_cst_0 : FVec F S_ .f32 := constant S_ .f32 0x7F800000#32
  let main_v4 : FVec F S2x896x30 .f32 := broadcastInDim S2x896x30 ![] bcast_S_S2x896x30 main_cst_0
  let main_v5 : IVec S2x896x30 1 := cmpf .olt main_v3 main_v4
  let main_v6 : FVec F S2x896x30x96 .f32 := Host.absf main_arg2
  let main_cst_1 : FVec F S_ .f32 := constant S_ .f32 0x7F800000#32
  let main_v7 : FVec F S2x896x30x96 .f32 := broadcastInDim S2x896x30x96 ![] bcast_S_S2x896x30x96 main_cst_1
  let main_v8 : IVec S2x896x30x96 1 := cmpf .olt main_v6 main_v7
  let main_v9 : FVec F S2x896x30 .f32 := Host.absf main_arg3
  let main_cst_2 : FVec F S_ .f32 := constant S_ .f32 0x7F800000#32
  let main_v10 : FVec F S2x896x30 .f32 := broadcastInDim S2x896x30 ![] bcast_S_S2x896x30 main_cst_2
  let main_v11 : IVec S2x896x30 1 := cmpf .olt main_v9 main_v10
  let main_v12 : FVec F S2x896x30x96 .f32 := Host.absf main_arg4
  let main_cst_3 : FVec F S_ .f32 := constant S_ .f32 0x7F800000#32
  let main_v13 : FVec F S2x896x30x96 .f32 := broadcastInDim S2x896x30x96 ![] bcast_S_S2x896x30x96 main_cst_3
  let main_v14 : IVec S2x896x30x96 1 := cmpf .olt main_v12 main_v13
  let main_v15 : FVec F S32x960x128 .f32 := Host.absf main_arg5
  let main_cst_4 : FVec F S_ .f32 := constant S_ .f32 0x7F800000#32
  let main_v16 : FVec F S32x960x128 .f32 := broadcastInDim S32x960x128 ![] bcast_S_S32x960x128 main_cst_4
  let main_v17 : IVec S32x960x128 1 := cmpf .olt main_v15 main_v16
  (main_v2, main_v5, main_v8, main_v11, main_v14, main_v17)
-- ==== Kernel.lean ====
abbrev S2x896x30x96 : Shape := ⟨4, ![2, 896, 30, 96]⟩
abbrev S2x896x30 : Shape := ⟨3, ![2, 896, 30]⟩
abbrev S32x960x128 : Shape := ⟨3, ![32, 960, 128]⟩
abbrev S2x896 : Shape := ⟨2, ![2, 896]⟩
abbrev S2x30x896x96 : Shape := ⟨4, ![2, 30, 896, 96]⟩
abbrev S60x896x96 : Shape := ⟨3, ![60, 896, 96]⟩
abbrev S2x30x896 : Shape := ⟨3, ![2, 30, 896]⟩
abbrev S60x896x1 : Shape := ⟨3, ![60, 896, 1]⟩
abbrev S60x14x64 : Shape := ⟨3, ![60, 14, 64]⟩
abbrev S2x1x896 : Shape := ⟨3, ![2, 1, 896]⟩
abbrev S2x896x1 : Shape := ⟨3, ![2, 896, 1]⟩
abbrev S1x896x96 : Shape := ⟨3, ![1, 896, 96]⟩
abbrev S32x16x128 : Shape := ⟨3, ![32, 16, 128]⟩
abbrev S1x896x1 : Shape := ⟨3, ![1, 896, 1]⟩
abbrev S1x14x64 : Shape := ⟨3, ![1, 14, 64]⟩
abbrev S1x1x896 : Shape := ⟨3, ![1, 1, 896]⟩
abbrev S96x896 : Shape := ⟨2, ![96, 896]⟩
abbrev S64x64 : Shape := ⟨2, ![64, 64]⟩
abbrev S96x96 : Shape := ⟨2, ![96, 96]⟩
abbrev S1x64x96 : Shape := ⟨3, ![1, 64, 96]⟩
abbrev S64x96 : Shape := ⟨2, ![64, 96]⟩
abbrev S128x96 : Shape := ⟨2, ![128, 96]⟩
abbrev S128x128 : Shape := ⟨2, ![128, 128]⟩
abbrev S32x1x128 : Shape := ⟨3, ![32, 1, 128]⟩
abbrev S32x128 : Shape := ⟨2, ![32, 128]⟩
abbrev S32x64 : Shape := ⟨2, ![32, 64]⟩
abbrev S64x224 : Shape := ⟨2, ![64, 224]⟩
abbrev S256x224 : Shape := ⟨2, ![256, 224]⟩
abbrev S64x256 : Shape := ⟨2, ![64, 256]⟩
abbrev S64x160 : Shape := ⟨2, ![64, 160]⟩
abbrev S96x64 : Shape := ⟨2, ![96, 64]⟩
abbrev S96x256 : Shape := ⟨2, ![96, 256]⟩
abbrev S224x256 : Shape := ⟨2, ![224, 256]⟩
abbrev S256x160 : Shape := ⟨2, ![256, 160]⟩
abbrev S224x160 : Shape := ⟨2, ![224, 160]⟩
abbrev S96x160 : Shape := ⟨2, ![96, 160]⟩
abbrev S1x64x1 : Shape := ⟨3, ![1, 64, 1]⟩
abbrev S64x1 : Shape := ⟨2, ![64, 1]⟩
abbrev S1x1x64 : Shape := ⟨3, ![1, 1, 64]⟩
abbrev S1x64 : Shape := ⟨2, ![1, 64]⟩
abbrev S64 : Shape := ⟨1, ![64]⟩
abbrev S64x192 : Shape := ⟨2, ![64, 192]⟩
abbrev S96x192 : Shape := ⟨2, ![96, 192]⟩
abbrev S256x192 : Shape := ⟨2, ![256, 192]⟩
abbrev S192x64 : Shape := ⟨2, ![192, 64]⟩
abbrev S256x64 : Shape := ⟨2, ![256, 64]⟩
abbrev S96x128 : Shape := ⟨2, ![96, 128]⟩
abbrev S192x128 : Shape := ⟨2, ![192, 128]⟩
abbrev S256x128 : Shape := ⟨2, ![256, 128]⟩
abbrev S64x128 : Shape := ⟨2, ![64, 128]⟩
abbrev S1x1x128 : Shape := ⟨3, ![1, 1, 128]⟩
abbrev S1x128 : Shape := ⟨2, ![1, 128]⟩
abbrev S1x128x96 : Shape := ⟨3, ![1, 128, 96]⟩
abbrev S192x192 : Shape := ⟨2, ![192, 192]⟩
abbrev S1x1x192 : Shape := ⟨3, ![1, 1, 192]⟩
abbrev S1x192 : Shape := ⟨2, ![1, 192]⟩
abbrev S1x192x96 : Shape := ⟨3, ![1, 192, 96]⟩
abbrev S192x96 : Shape := ⟨2, ![192, 96]⟩
abbrev S192x256 : Shape := ⟨2, ![192, 256]⟩
abbrev S256x256 : Shape := ⟨2, ![256, 256]⟩
abbrev S1x1x256 : Shape := ⟨3, ![1, 1, 256]⟩
abbrev S1x256 : Shape := ⟨2, ![1, 256]⟩
abbrev S1x256x96 : Shape := ⟨3, ![1, 256, 96]⟩
abbrev S256x96 : Shape := ⟨2, ![256, 96]⟩
abbrev S2x896x2880 : Shape := ⟨3, ![2, 896, 2880]⟩

abbrev nBuf : Space → Nat
  | .hbm => 29
  | .vmem => 23
  | .smem => 0
  | _ => 0

abbrev bufTy : (tb : Table) → Fin (tcTables nBuf tb) → BufTy
  | .hbm, ⟨0, _⟩ => ⟨S2x896x30x96, .f32⟩
  | .hbm, ⟨1, _⟩ => ⟨S2x896x30, .f32⟩
  | .hbm, ⟨2, _⟩ => ⟨S2x896x30x96, .f32⟩
  | .hbm, ⟨3, _⟩ => ⟨S2x896x30, .f32⟩
  | .hbm, ⟨4, _⟩ => ⟨S2x896x30x96, .f32⟩
  | .hbm, ⟨5, _⟩ => ⟨S32x960x128, .f32⟩
  | .hbm, ⟨6, _⟩ => ⟨S2x896x30x96, .bf16⟩
  | .hbm, ⟨7, _⟩ => ⟨S2x896, .i32⟩
  | .hbm, ⟨8, _⟩ => ⟨S2x896x30x96, .fp8e4m3⟩
  | .hbm, ⟨9, _⟩ => ⟨S2x896x30x96, .fp8e4m3⟩
  | .hbm, ⟨10, _⟩ => ⟨S2x896x30x96, .fp8e4m3⟩
  | .hbm, ⟨11, _⟩ => ⟨S2x30x896x96, .fp8e4m3⟩
  | .hbm, ⟨12, _⟩ => ⟨S60x896x96, .fp8e4m3⟩
  | .hbm, ⟨13, _⟩ => ⟨S2x30x896x96, .fp8e4m3⟩
  | .hbm, ⟨14, _⟩ => ⟨S60x896x96, .fp8e4m3⟩
  | .hbm, ⟨15, _⟩ => ⟨S2x30x896x96, .fp8e4m3⟩
  | .hbm, ⟨16, _⟩ => ⟨S60x896x96, .fp8e4m3⟩
  | .hbm, ⟨17, _⟩ => ⟨S2x30x896x96, .bf16⟩
  | .hbm, ⟨18, _⟩ => ⟨S60x896x96, .bf16⟩
  | .hbm, ⟨19, _⟩ => ⟨S2x30x896, .f32⟩
  | .hbm, ⟨20, _⟩ => ⟨S60x896x1, .f32⟩
  | .hbm, ⟨21, _⟩ => ⟨S2x30x896, .f32⟩
  | .hbm, ⟨22, _⟩ => ⟨S60x14x64, .f32⟩
  | .hbm, ⟨23, _⟩ => ⟨S2x1x896, .i32⟩
  | .hbm, ⟨24, _⟩ => ⟨S2x896x1, .i32⟩
  | .hbm, ⟨25, _⟩ => ⟨S60x896x96, .bf16⟩
  | .hbm, ⟨26, _⟩ => ⟨S2x30x896x96, .bf16⟩
  | .hbm, ⟨27, _⟩ => ⟨S2x896x30x96, .bf16⟩
  | .hbm, ⟨28, _⟩ => ⟨S2x896x2880, .bf16⟩
  | .local _ .vmem, ⟨0, _⟩ => ⟨S1x896x96, .fp8e4m3⟩
  | .local _ .vmem, ⟨1, _⟩ => ⟨S1x896x96, .fp8e4m3⟩
  | .local _ .vmem, ⟨2, _⟩ => ⟨S1x896x96, .fp8e4m3⟩
  | .local _ .vmem, ⟨3, _⟩ => ⟨S1x896x96, .fp8e4m3⟩
  | .local _ .vmem, ⟨4, _⟩ => ⟨S1x896x96, .fp8e4m3⟩
  | .local _ .vmem, ⟨5, _⟩ => ⟨S1x896x96, .fp8e4m3⟩
  | .local _ .vmem, ⟨6, _⟩ => ⟨S1x896x96, .bf16⟩
  | .local _ .vmem, ⟨7, _⟩ => ⟨S1x896x96, .bf16⟩
  | .local _ .vmem, ⟨8, _⟩ => ⟨S32x16x128, .f32⟩
  | .local _ .vmem, ⟨9, _⟩ => ⟨S32x16x128, .f32⟩
  | .local _ .vmem, ⟨10, _⟩ => ⟨S1x896x1, .f32⟩
  | .local _ .vmem, ⟨11, _⟩ => ⟨S1x896x1, .f32⟩
  | .local _ .vmem, ⟨12, _⟩ => ⟨S1x14x64, .f32⟩
  | .local _ .vmem, ⟨13, _⟩ => ⟨S1x14x64, .f32⟩
  | .local _ .vmem, ⟨14, _⟩ => ⟨S1x1x896, .i32⟩
  | .local _ .vmem, ⟨15, _⟩ => ⟨S1x1x896, .i32⟩
  | .local _ .vmem, ⟨16, _⟩ => ⟨S1x896x1, .i32⟩
  | .local _ .vmem, ⟨17, _⟩ => ⟨S1x896x1, .i32⟩
  | .local _ .vmem, ⟨18, _⟩ => ⟨S1x896x96, .bf16⟩
  | .local _ .vmem, ⟨19, _⟩ => ⟨S1x896x96, .bf16⟩
  | .local _ .vmem, ⟨20, _⟩ => ⟨S96x896, .bf16⟩
  | .local _ .vmem, ⟨21, _⟩ => ⟨S96x896, .bf16⟩
  | .local _ .vmem, ⟨22, _⟩ => ⟨S96x896, .bf16⟩
  | _, _ => ⟨S2x896x30x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x896x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x896x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x896x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x896x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x14x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x896 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x896x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x896x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
variable {F : FTy → Type} [FloatOps F] [Named F]
def κ : String → Option EReal := fun
  | "scale" => some (((Real.sqrt 96)⁻¹ : ℝ) : EReal)
  | _ => none
-- ==== Reference.lean ====
abbrev S2x896x30x96 : Shape := ⟨4, ![2, 896, 30, 96]⟩
abbrev S2x896x30 : Shape := ⟨3, ![2, 896, 30]⟩
abbrev S32x960x128 : Shape := ⟨3, ![32, 960, 128]⟩
abbrev S2x896 : Shape := ⟨2, ![2, 896]⟩
abbrev S60x896x96 : Shape := ⟨3, ![60, 896, 96]⟩
abbrev S2x30x896x96 : Shape := ⟨4, ![2, 30, 896, 96]⟩
abbrev S2x30x896 : Shape := ⟨3, ![2, 30, 896]⟩
abbrev S60x896x1 : Shape := ⟨3, ![60, 896, 1]⟩
abbrev S60x1x896 : Shape := ⟨3, ![60, 1, 896]⟩
abbrev S32x60x16x2x64 : Shape := ⟨5, ![32, 60, 16, 2, 64]⟩
abbrev S60x16x2x32x64 : Shape := ⟨5, ![60, 16, 2, 32, 64]⟩
abbrev S60x16x64x64 : Shape := ⟨4, ![60, 16, 64, 64]⟩
abbrev S64x896 : Shape := ⟨2, ![64, 896]⟩
abbrev S64x64 : Shape := ⟨2, ![64, 64]⟩
abbrev S60x64x96 : Shape := ⟨3, ![60, 64, 96]⟩
abbrev S60x1x64x64 : Shape := ⟨4, ![60, 1, 64, 64]⟩
abbrev S60x64x64 : Shape := ⟨3, ![60, 64, 64]⟩
abbrev S60x64x1 : Shape := ⟨3, ![60, 64, 1]⟩
abbrev S1x64x64 : Shape := ⟨3, ![1, 64, 64]⟩
abbrev S60x64x896 : Shape := ⟨3, ![60, 64, 896]⟩
abbrev S1x64x896 : Shape := ⟨3, ![1, 64, 896]⟩
abbrev S60x896x896 : Shape := ⟨3, ![60, 896, 896]⟩
abbrev S2x1x896 : Shape := ⟨3, ![2, 1, 896]⟩
abbrev S896x896 : Shape := ⟨2, ![896, 896]⟩
abbrev S1x896x896 : Shape := ⟨3, ![1, 896, 896]⟩
abbrev S60x896 : Shape := ⟨2, ![60, 896]⟩
abbrev S2x896x2880 : Shape := ⟨3, ![2, 896, 2880]⟩

abbrev nBuf : Space → Nat
  | .hbm => 15
  | .vmem => 9
  | .smem => 0
  | _ => 0

abbrev bufTy : (tb : Table) → Fin (tcTables nBuf tb) → BufTy
  | .hbm, ⟨0, _⟩ => ⟨S2x896x30x96, .f32⟩
  | .hbm, ⟨1, _⟩ => ⟨S2x896x30, .f32⟩
  | .hbm, ⟨2, _⟩ => ⟨S2x896x30x96, .f32⟩
  | .hbm, ⟨3, _⟩ => ⟨S2x896x30, .f32⟩
  | .hbm, ⟨4, _⟩ => ⟨S2x896x30x96, .f32⟩
  | .hbm, ⟨5, _⟩ => ⟨S32x960x128, .f32⟩
  | .hbm, ⟨6, _⟩ => ⟨S2x896x30x96, .bf16⟩
  | .hbm, ⟨7, _⟩ => ⟨S2x896, .i32⟩
  | .hbm, ⟨8, _⟩ => ⟨S2x896x30x96, .fp8e4m3⟩
  | .hbm, ⟨9, _⟩ => ⟨S2x896x30x96, .fp8e4m3⟩
  | .hbm, ⟨10, _⟩ => ⟨S2x896x30x96, .fp8e4m3⟩
  | .hbm, ⟨11, _⟩ => ⟨S60x896x96, .bf16⟩
  | .hbm, ⟨12, _⟩ => ⟨S2x30x896x96, .bf16⟩
  | .hbm, ⟨13, _⟩ => ⟨S2x896x30x96, .bf16⟩
  | .hbm, ⟨14, _⟩ => ⟨S2x896x2880, .bf16⟩
  | .local _ .vmem, ⟨0, _⟩ => ⟨S2x896x30x96, .fp8e4m3⟩
  | .local _ .vmem, ⟨1, _⟩ => ⟨S2x896x30, .f32⟩
  | .local _ .vmem, ⟨2, _⟩ => ⟨S2x896x30x96, .fp8e4m3⟩
  | .local _ .vmem, ⟨3, _⟩ => ⟨S2x896x30, .f32⟩
  | .local _ .vmem, ⟨4, _⟩ => ⟨S2x896x30x96, .fp8e4m3⟩
  | .local _ .vmem, ⟨5, _⟩ => ⟨S32x960x128, .f32⟩
  | .local _ .vmem, ⟨6, _⟩ => ⟨S2x896x30x96, .bf16⟩
  | .local _ .vmem, ⟨7, _⟩ => ⟨S2x896, .i32⟩
  | .local _ .vmem, ⟨8, _⟩ => ⟨S60x896x96, .bf16⟩
  | _, _ => ⟨S2x896x30x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x896x30x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x30x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x30x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x960x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x30x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S60x896x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelRun.lean ====
/- The kernel's run: its result is the pipeline's array, block by block what the grid points write, laid out by tokens; and
   its arguments are as launched. -/
module

public import proofs.«01_k».proof.Proof.Gen.KernelIdeal.Frame
public import Idealize.ShloMosaic.Lib.Pipeline.Value
public import Idealize.ShloMosaic.Lib.StableHlo

@[expose] public section

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F] [Named F]
variable (m : (ℓ : Loc nD τ sig) → Buf (Elt F) ℓ) (ρ : Dev nD → PrngReg)

/-- What grid point `t` writes: the contents of its output buffer, cut to its block. -/
theorem flushed_out (c : Dev nD) (t : Fin cfg0.N) :
    (dats m 0 c).flushed 9 t = (cfg0.win 9).cut (grid0.coords t) (outsAt0 m c t) := by
  show (cfg0.win 9).cut (grid0.coords t) ((dats m 0 c).after 9 t) = _
  rw [after0_9]

/-- The output buffer holds what the body leaves there, of the point's blocks. -/
theorem flushed (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t)) := by
  simp only [flushed_out, outsAt0]

/-- Distinct grid points write distinct blocks. -/
theorem index_inj : ∀ t t' : Fin cfg0.N, win0_9.index t = win0_9.index t' → t = t' :=
  (by decide +kernel : ∀ t t' : Fin grid0.N, win0_9.index t = win0_9.index t' → t = t')

/-- The blocks of distinct grid points share no entry. -/
theorem disjoint : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (index_inj t t' h)

/-- Block `t` of the array at the end is what grid point `t` wrote. -/
theorem blocks (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint cfg0.N t t.isLt hf

/-- The heads' matrices laid out by tokens: each token's row holds the rows of its 30 heads. -/
def byToken (x : FVec F S60x896x96 .bf16) : FVec F S2x896x2880 .bf16 :=
  shapeCast S2x896x2880 (transpose S2x896x30x96 [0, 2, 1, 3] (shapeCast S2x30x896x96 x shapeCasts_S60x896x96_S2x30x896x96)
    transposes_S2x30x896x96_S2x896x30x96_0_2_1_3) shapeCasts_S2x896x30x96_S2x896x2880

/-- What a buffer outside the pipeline holds at the end. -/
abbrev left (c : Dev nD) (b : Ref sig .tc) : Buf (Elt F) ((c : Thread nD τ).loc b) :=
  Pipeline.afterTail₀ cfgs (dats m) 0 (V0 m) [hostOps1] c b

/-- The result at the end: the array laid out by tokens. -/
theorem left_result (c : Dev nD) : left m c main_v20 = byToken ((dats m 0 c).arrAt 9 cfg0.N) := by
  unfold left Pipeline.afterTail₀
  show StableHlo.after hostOps1 _ (Proc.devRef .tc main_v20) = _
  after_results
  have e := Pipeline.withArrays_arr spec0 launch0.win.arr_inj c (V0 m c) (fun w => (dats m 0 c).arrAt w cfg0.N) 9
  exact congrArg byToken e

/-- The run: its result and its arguments at the end. -/
theorem run : θ_run defs (onTc (τ := τ) (main (F := F))) ⟨m, fun _ => 0, ρ⟩ fun r => ∀ c : Dev nD,
      r.2.mem ((c : Thread nD τ).loc main_v20) = byToken ((dats m 0 c).arrAt 9 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      ((h c).2 main_v20 (Pipeline.mem_restRefs_of main_v20 (by decide) (by decide))).trans (left_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.ReferenceRun.lean ====
/- The reference's run: its result is the pipeline's array, block by block what the grid points write, laid out by tokens; and
   its arguments are as launched. -/
module

public import proofs.«01_k».proof.Proof.Gen.ReferenceIdeal.Frame
public import Idealize.ShloMosaic.Lib.Pipeline.Value
public import Idealize.ShloMosaic.Lib.StableHlo

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.Pipeline (Dat)

variable {F : FTy → Type} [FloatOps F] [Named F]
variable (m : (ℓ : Loc nD τ sig) → Buf (Elt F) ℓ) (ρ : Dev nD → PrngReg)

/-- What the one grid point writes: what the body leaves in its output buffer, of the whole arrays. -/
theorem flushed (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- Distinct grid points write distinct blocks. -/
theorem index_inj : ∀ t t' : Fin cfg0.N, win0_8.index t = win0_8.index t' → t = t' :=
  (by decide +kernel : ∀ t t' : Fin grid0.N, win0_8.index t = win0_8.index t' → t = t')

/-- The blocks of distinct grid points share no entry. -/
theorem disjoint : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (index_inj t t' h)

/-- Block `t` of the array at the end is what grid point `t` wrote. -/
theorem blocks (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint cfg0.N t t.isLt hf

/-- The heads' matrices laid out by tokens: each token's row holds the rows of its 30 heads. -/
def byToken (x : FVec F S60x896x96 .bf16) : FVec F S2x896x2880 .bf16 :=
  shapeCast S2x896x2880 (transpose S2x896x30x96 [0, 2, 1, 3] (shapeCast S2x30x896x96 x shapeCasts_S60x896x96_S2x30x896x96)
    transposes_S2x30x896x96_S2x896x30x96_0_2_1_3) shapeCasts_S2x896x30x96_S2x896x2880

/-- What a buffer outside the pipeline holds at the end. -/
abbrev left (c : Dev nD) (b : Ref sig .tc) : Buf (Elt F) ((c : Thread nD τ).loc b) :=
  Pipeline.afterTail₀ cfgs (dats m) 0 (V0 m) [hostOps1] c b

/-- The result at the end: the array laid out by tokens. -/
theorem left_result (c : Dev nD) : left m c main_v6 = byToken ((dats m 0 c).arrAt 8 cfg0.N) := by
  unfold left Pipeline.afterTail₀
  show StableHlo.after hostOps1 _ (Proc.devRef .tc main_v6) = _
  after_results
  have e := Pipeline.withArrays_arr spec0 launch0.win.arr_inj c (V0 m c) (fun w => (dats m 0 c).arrAt w cfg0.N) 8
  exact congrArg byToken e

/-- The run: its result and its arguments at the end. -/
theorem run : θ_run defs (onTc (τ := τ) (main (F := F))) ⟨m, fun _ => 0, ρ⟩ fun r => ∀ c : Dev nD,
      r.2.mem ((c : Thread nD τ).loc main_v6) = byToken ((dats m 0 c).arrAt 8 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      ((h c).2 main_v6 (Pipeline.mem_restRefs_of main_v6 (by decide) (by decide))).trans (left_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.ReferenceIdeal.Run

end
-- ==== Proof.Stage.lean ====
/- The kernel's body, one chunk of 64 tokens of one head, written once for all chunks: the functions below are the
   operations the body prints, in its order, with the chunk's blocks as arguments. -/
module

public import proofs.«01_k».proof.Proof.Gen.KernelIdeal

@[expose] public section

set_option maxRecDepth 16384

noncomputable section

namespace Cert.Path.Stage

open Idealize.ShloMosaic Cert.KernelIdeal Cert.KernelIdeal.Facts₀ Cert.KernelIdeal.Facts

variable {F : FTy → Type} [FloatOps F] [Named F]

/-! ### Facts about shapes, for any width of a span -/

theorem cats0 {M N a b : ℕ} (h : a + b = M) : Shape.Concatenates [⟨2, ![a, N]⟩, ⟨2, ![b, N]⟩] ⟨2, ![M, N]⟩ 0 := by
  subst h
  refine ⟨by simp, ?_, by simp⟩
  intro s hs
  simp only [List.mem_cons, List.not_mem_nil, or_false] at hs
  rcases hs with rfl | rfl <;> refine ⟨rfl, fun b hb => ?_⟩ <;> match b with | ⟨0, _⟩ => exact absurd rfl hb | ⟨1, _⟩ => rfl

theorem slices {M N M' N' a b : ℕ} (h : a + M' ≤ M) (h' : b + N' ≤ N) :
    (⟨2, ![M, N]⟩ : Shape).Slices ![a, b] ⟨2, ![M', N']⟩ :=
  ⟨rfl, fun d => match d with | ⟨0, _⟩ => h | ⟨1, _⟩ => h'⟩

theorem stretchCol (M N : ℕ) : (⟨2, ![M, 1]⟩ : Shape).Broadcasts ⟨2, ![M, N]⟩ :=
  ⟨le_refl _, fun d => match d with | ⟨0, _⟩ => .inr fun _ => rfl | ⟨1, _⟩ => .inl rfl⟩

theorem stretchRow (M N : ℕ) : (⟨2, ![1, N]⟩ : Shape).Broadcasts ⟨2, ![M, N]⟩ :=
  ⟨le_refl _, fun d => match d with | ⟨0, _⟩ => .inl rfl | ⟨1, _⟩ => .inr fun _ => rfl⟩

/-! ### Splitting a value into three bf16 parts -/

section
variable {s : Shape}

/-- The leading bf16 part. -/
def part1 (x : FVec F s .f32) : FVec F s .bf16 := truncf .bf16 x bitsLt_bf16_f32
/-- What the leading part leaves out. -/
def rest (x : FVec F s .f32) : FVec F s .f32 := subf x (extf .f32 (part1 x) bitsLt_bf16_f32)
/-- The second bf16 part. -/
def part2 (x : FVec F s .f32) : FVec F s .bf16 := part1 (rest x)
/-- The third bf16 part. -/
def part3 (x : FVec F s .f32) : FVec F s .bf16 := part1 (rest (rest x))

end

/-! ### The chunk's own block -/

/-- The token's number inside the chunk, along the rows. -/
def row : IVec S64x64 32 := iota .tc S64x64 32 [0] iota_S64x64_d0_w32
/-- The token's number inside the chunk, along the columns. -/
def col : IVec S64x64 32 := iota .tc S64x64 32 [1] iota_S64x64_d1_w32

/-- The identity matrix of a head's 96 coordinates. -/
def eye : FVec F S96x96 .f32 :=
  sitofp .f32 (extui 32 (cmpi .eq (iota .tc S96x96 32 [0] iota_S96x96_d0_w32) (iota .tc S96x96 32 [1] iota_S96x96_d1_w32)) natLt_1_32)

def tokens {φ : FTy} (x : FVec F S1x64x96 φ) : FVec F S64x96 φ := shapeCast S64x96 x shapeCasts_S1x64x96_S64x96

variable (q k w : FVec F S64x96 .fp8e4m3) (b : FVec F S32x1x128 .f32)

/-- All dot products of `[q; w]` with `[w; k]`. -/
def dots : FVec F S128x128 .f32 :=
  matmul dot_S128x96_S128x96_S128x128_1_1_0_0_n_n none
    (concatenate S128x96 0 [⟨S64x96, q⟩, ⟨S64x96, w⟩] concatenates_S64x96_S64x96_S128x96_d0)
    (concatenate S128x96 0 [⟨S64x96, w⟩, ⟨S64x96, k⟩] concatenates_S64x96_S64x96_S128x96_d0)
    (constant S128x128 .f32 0x00000000#32)

def qk : FVec F S64x64 .f32 := extractStridedSlice S64x64 ![0, 64] (dots q k w) slices_S128x128_o0_64_S64x64

/-- The queries against the reflection vectors up to their own. -/
def qw : FVec F S64x64 .f32 :=
  select (cmpi .sge row col) (extractStridedSlice S64x64 ![0, 0] (dots q k w) slices_S128x128_o0_0_S64x64)
    (broadcast S64x64 (Scalar.ofBits .f32 0x00000000#32))

/-- The reflection vectors against the keys before their own. -/
def wk : FVec F S64x64 .f32 :=
  select (cmpi .sgt row col) (extractStridedSlice S64x64 ![64, 64] (dots q k w) slices_S128x128_o64_64_S64x64)
    (broadcast S64x64 (Scalar.ofBits .f32 0x00000000#32))

def wb : FVec F S64x96 .bf16 := extf .bf16 w bitsLt_fp8e4m3_bf16

/-- The chunk's inverse, from its two halves side by side. -/
def inverse : FVec F S64x64 .f32 :=
  concatenate S64x64 0
    [⟨S32x64, extractStridedSlice S32x64 ![0, 0] (shapeCast S32x128 b shapeCasts_S32x1x128_S32x128) slices_S32x128_o0_0_S32x64⟩,
     ⟨S32x64, extractStridedSlice S32x64 ![0, 64] (shapeCast S32x128 b shapeCasts_S32x1x128_S32x128) slices_S32x128_o0_64_S32x64⟩]
    concatenates_S32x64_S32x64_S64x64_d0

def none64 : FVec F S64x64 .bf16 := broadcast S64x64 (Scalar.ofBits .bf16 0x0000#16)

/-- The inverse against the parts of `wk` and against `w`. -/
def solve (inv : FVec F S64x64 .f32) (wk : FVec F S64x64 .f32) (wb : FVec F S64x96 .bf16) : FVec F S64x224 .f32 :=
  matmul dot_S64x256_S256x224_S64x224_1_0_0_1_n_n none
    (concatenate S64x256 1 [⟨S64x64, part1 inv⟩, ⟨S64x64, part2 inv⟩, ⟨S64x64, part3 inv⟩, ⟨S64x64, part1 inv⟩]
      concatenates_S64x64_S64x64_S64x64_S64x64_S64x256_d1)
    (concatenate S256x224 0
      [⟨S64x224, concatenate S64x224 1 [⟨S64x64, part1 wk⟩, ⟨S64x64, part2 wk⟩, ⟨S64x96, wb⟩] concatenates_S64x64_S64x64_S64x96_S64x224_d1⟩,
       ⟨S64x224, concatenate S64x224 1 [⟨S64x64, part1 wk⟩, ⟨S64x64, part2 wk⟩, ⟨S64x96, wb⟩] concatenates_S64x64_S64x64_S64x96_S64x224_d1⟩,
       ⟨S64x224, concatenate S64x224 1 [⟨S64x64, part1 wk⟩, ⟨S64x64, none64⟩, ⟨S64x96, wb⟩] concatenates_S64x64_S64x64_S64x96_S64x224_d1⟩,
       ⟨S64x224, concatenate S64x224 1 [⟨S64x64, part3 wk⟩, ⟨S64x64, none64⟩, ⟨S64x96, broadcast S64x96 (Scalar.ofBits .bf16 0x0000#16)⟩]
          concatenates_S64x64_S64x64_S64x96_S64x224_d1⟩]
      concatenates_S64x224_S64x224_S64x224_S64x224_S256x224_d0)
    (constant S64x224 .f32 0x00000000#32)

/-- `[inv wk | inv w]`. -/
def solved (inv : FVec F S64x64 .f32) (wk : FVec F S64x64 .f32) (wb : FVec F S64x96 .bf16) : FVec F S64x160 .f32 :=
  concatenate S64x160 1
    [⟨S64x64, addf (extractStridedSlice S64x64 ![0, 0] (solve inv wk wb) slices_S64x224_o0_0_S64x64)
        (extractStridedSlice S64x64 ![0, 64] (solve inv wk wb) slices_S64x224_o0_64_S64x64)⟩,
     ⟨S64x96, extractStridedSlice S64x96 ![0, 128] (solve inv wk wb) slices_S64x224_o0_128_S64x96⟩]
    concatenates_S64x64_S64x96_S64x160_d1

/-- The left operand of the chunk's second product: the parts of `qw` and the transpose of `w`. -/
def lhs (qw : FVec F S64x64 .f32) (wb : FVec F S64x96 .bf16) : FVec F S224x256 .bf16 :=
  concatenate S224x256 0
    [⟨S64x256, concatenate S64x256 1 [⟨S64x64, part1 qw⟩, ⟨S64x64, part1 qw⟩, ⟨S64x64, part1 qw⟩, ⟨S64x64, part2 qw⟩]
        concatenates_S64x64_S64x64_S64x64_S64x64_S64x256_d1⟩,
     ⟨S64x256, concatenate S64x256 1 [⟨S64x64, part3 qw⟩, ⟨S64x64, part2 qw⟩, ⟨S64x64, none64⟩, ⟨S64x64, none64⟩]
        concatenates_S64x64_S64x64_S64x64_S64x64_S64x256_d1⟩,
     ⟨S96x256, concatenate S96x256 1
        [⟨S96x64, transpose S96x64 [1, 0] wb transposes_S64x96_p1_0_S96x64⟩, ⟨S96x64, transpose S96x64 [1, 0] wb transposes_S64x96_p1_0_S96x64⟩,
         ⟨S96x64, transpose S96x64 [1, 0] wb transposes_S64x96_p1_0_S96x64⟩, ⟨S96x64, broadcast S96x64 (Scalar.ofBits .bf16 0x0000#16)⟩]
        concatenates_S96x64_S96x64_S96x64_S96x64_S96x256_d1⟩]
    concatenates_S64x256_S64x256_S96x256_S224x256_d0

/-- The chunk's second product. -/
def part (qw : FVec F S64x64 .f32) (wb : FVec F S64x96 .bf16) (x : FVec F S64x160 .f32) : FVec F S224x160 .f32 :=
  matmul dot_S224x256_S256x160_S224x160_1_0_0_1_n_n none (lhs qw wb)
    (concatenate S256x160 0 [⟨S64x160, part1 x⟩, ⟨S64x160, part2 x⟩, ⟨S64x160, part3 x⟩, ⟨S64x160, part1 x⟩]
      concatenates_S64x160_S64x160_S64x160_S64x160_S256x160_d0)
    (constant S224x160 .f32 0x00000000#32)

/-- `qw [inv wk | inv w]` and below it `wᵀ [inv wk | inv w]`. -/
def parts : FVec F S224x160 .f32 := part (qw q k w) (wb w) (solved (inverse b) (wk q k w) (wb w))

def qpart : FVec F S64x160 .f32 :=
  addf (extractStridedSlice S64x160 ![0, 0] (parts q k w b) slices_S224x160_o0_0_S64x160)
    (extractStridedSlice S64x160 ![64, 0] (parts q k w b) slices_S224x160_o64_0_S64x160)

def wpart : FVec F S96x160 .f32 := extractStridedSlice S96x160 ![128, 0] (parts q k w b) slices_S224x160_o128_0_S96x160

variable (qs : FVec F S64x1 .f32) (ks : FVec F S1x64 .f32)

/-- The scores of the queries against the keys of their own chunk. -/
def sdiag : FVec F S64x64 .f32 :=
  mulf (mulf (subf (qk q k w) (extractStridedSlice S64x64 ![0, 0] (qpart q k w b) slices_S64x160_o0_0_S64x64))
      (broadcastTo S64x64 (mulf qs (broadcast S64x1 (Named.named κ "scale_log2e" 0x3E16C740#32))) broadcasts_S64x1_S64x64))
    (broadcastTo S64x64 ks broadcasts_S1x64_S64x64)

/-- The queries, reflected back to the chunk's first token. -/
def qhat : FVec F S64x96 .bf16 :=
  truncf .bf16 (mulf (subf (extf .f32 q bitsLt_fp8e4m3_f32) (extractStridedSlice S64x96 ![0, 64] (qpart q k w b) slices_S64x160_o0_64_S64x96))
    (broadcastTo S64x96 qs broadcasts_S64x1_S64x96)) bitsLt_bf16_f32

/-- The chunk's keys, reflected past the chunk's last token. -/
def khat : FVec F S96x64 .f32 :=
  mulf (subf (transpose S96x64 [1, 0] (extf .f32 k bitsLt_fp8e4m3_f32) transposes_S64x96_p1_0_S96x64)
      (extractStridedSlice S96x64 ![0, 0] (wpart q k w b) slices_S96x160_o0_0_S96x64))
    (broadcastTo S96x64 ks broadcasts_S1x64_S96x64)

/-- The chunk's reflection of an earlier key. -/
def refl : FVec F S96x96 .f32 :=
  subf eye (extractStridedSlice S96x96 ![0, 64] (wpart q k w b) slices_S96x160_o0_64_S96x96)

/-- Own keys hidden from a query: later ones and those of another segment. -/
def own (s : FVec F S64x64 .f32) (segq : IVec S64x1 32) (segk : IVec S1x64 32) : FVec F S64x64 .f32 :=
  select (andi (cmpi .sge row col) (cmpi .eq (broadcastTo S64x64 segq broadcasts_S64x1_S64x64) (broadcastTo S64x64 segk broadcasts_S1x64_S64x64)))
    s (broadcast S64x64 (Scalar.ofBits .f32 0xFF800000#32))

/-! ### A span of `W` earlier keys -/

section Span
variable {W : ℕ} (p : FVec F S96x96 .f32) (qh : FVec F S64x96 .bf16) (y1 y2 y3 : FVec F ⟨2, ![96, W]⟩ .bf16)

/-- The leading parts of the reflection and the queries against the span's keys. -/
def big : FVec F ⟨2, ![256, W]⟩ .f32 :=
  matmul (DotDims.plain 256 192 W) none
    (concatenate S256x192 0
      [⟨S96x192, concatenate S96x192 1 [⟨S96x96, part1 p⟩, ⟨S96x96, part1 p⟩] concatenates_S96x96_S96x96_S96x192_d1⟩,
       ⟨S96x192, concatenate S96x192 1 [⟨S96x96, part2 p⟩, ⟨S96x96, part2 p⟩] concatenates_S96x96_S96x96_S96x192_d1⟩,
       ⟨S64x192, concatenate S64x192 1 [⟨S64x96, qh⟩, ⟨S64x96, broadcast S64x96 (Scalar.ofBits .bf16 0x0000#16)⟩] concatenates_S64x96_S64x96_S64x192_d1⟩]
      concatenates_S96x192_S96x192_S64x192_S256x192_d0)
    (concatenate ⟨2, ![192, W]⟩ 0 [⟨⟨2, ![96, W]⟩, y1⟩, ⟨⟨2, ![96, W]⟩, y2⟩] (cats0 rfl))
    (constant ⟨2, ![256, W]⟩ .f32 0x00000000#32)

/-- The span's keys, reflected past the chunk's last token. -/
def reflected : FVec F ⟨2, ![96, W]⟩ .f32 :=
  addf (addf (extractStridedSlice ⟨2, ![96, W]⟩ ![0, 0] (big p qh y1 y2) (slices (by omega) (by omega)))
      (extractStridedSlice ⟨2, ![96, W]⟩ ![96, 0] (big p qh y1 y2) (slices (by omega) (by omega))))
    (matmul (DotDims.plain 96 192 W) none
      (concatenate S96x192 1 [⟨S96x96, part3 p⟩, ⟨S96x96, part1 p⟩] concatenates_S96x96_S96x96_S96x192_d1)
      (concatenate ⟨2, ![192, W]⟩ 0 [⟨⟨2, ![96, W]⟩, y1⟩, ⟨⟨2, ![96, W]⟩, y3⟩] (cats0 rfl))
      (constant ⟨2, ![96, W]⟩ .f32 0x00000000#32))

/-- The queries against the span's keys. -/
def against : FVec F ⟨2, ![64, W]⟩ .f32 :=
  extractStridedSlice ⟨2, ![64, W]⟩ ![192, 0] (big p qh y1 y2) (slices (by omega) (by omega))

/-- The queries against the span's keys, in the last chunk. -/
def againstLast : FVec F ⟨2, ![64, W]⟩ .f32 :=
  matmul (DotDims.plain 64 96 W) none qh y1 (constant ⟨2, ![64, W]⟩ .f32 0x00000000#32)

/-- The scaled scores, keys of another segment hidden. -/
def seen (s : FVec F ⟨2, ![64, W]⟩ .f32) (segq : IVec S64x1 32) (segk : IVec ⟨2, ![1, W]⟩ 32) : FVec F ⟨2, ![64, W]⟩ .f32 :=
  select (cmpi .eq (broadcastTo ⟨2, ![64, W]⟩ segq (stretchCol 64 W)) (broadcastTo ⟨2, ![64, W]⟩ segk (stretchRow 64 W)))
    (mulf s (broadcast ⟨2, ![64, W]⟩ (Named.named κ "scale_log2e" 0x3E16C740#32)))
    (broadcast ⟨2, ![64, W]⟩ (Scalar.ofBits .f32 0xFF800000#32))

end Span

/-! ### The chunk's result -/

section Soft

theorem reducesCols (M N : ℕ) : (⟨2, ![M, N]⟩ : Shape).Reduces [1] ⟨1, ![M]⟩ :=
  ⟨rfl, Nat.one_pos, fun b => match b with | ⟨0, _⟩ => rfl⟩

variable {W : ℕ} (s : FVec F ⟨2, ![64, W]⟩ .f32) (m : FVec F S64x1 .f32) (l : FVec F S64x1 .f32) (acc : FVec F S64x96 .f32)
  (v : FVec F ⟨2, ![W, 96]⟩ .bf16)

/-- The largest score of every row. -/
def top : FVec F S64x1 .f32 :=
  shapeCast S64x1 (multiReduction .maximumf [1] S64 s 0xFF800000#32 (reducesCols 64 W) (.inl rfl) rfl) shapeCasts_S64_S64x1

/-- The weights of a span. -/
def weights : FVec F ⟨2, ![64, W]⟩ .f32 := exp2 (subf s (broadcastTo ⟨2, ![64, W]⟩ m (stretchCol 64 W)))

/-- The running total, the span's weights added. -/
def total : FVec F S64x1 .f32 :=
  addf l (shapeCast S64x1 (multiReduction .add [1] S64 (weights s m) 0x00000000#32 (reducesCols 64 W) (.inl rfl) rfl) shapeCasts_S64_S64x1)

/-- The running sum of values, the span's weighted values added. -/
def weighted : FVec F S64x96 .f32 :=
  addf acc (matmul (DotDims.plain 64 W 96) none (truncf .bf16 (weights s m) bitsLt_bf16_f32) v (constant S64x96 .f32 0x00000000#32))

def noTotal : FVec F S64x1 .f32 := broadcast S64x1 (Scalar.ofBits .f32 0x00000000#32)
def noValue : FVec F S64x96 .f32 := broadcast S64x96 (Scalar.ofBits .f32 0x00000000#32)

/-- The row's mean value. -/
def mean : FVec F S1x64x96 .bf16 :=
  shapeCast S1x64x96 (truncf .bf16 (divf acc (broadcastTo S64x96 l broadcasts_S64x1_S64x96)) bitsLt_bf16_f32) shapeCasts_S64x96_S1x64x96

end Soft

end Cert.Path.Stage
-- ==== Proof.Point.lean ====
/- What the kernel's body is run on at one grid point (one head): its buffers and their contents, and the values it
   computes of each chunk of 64 tokens, in the functions of `Stage`. -/
module

public import proofs.«01_k».proof.Proof.Gen.KernelIdeal.Frame
public import proofs.«01_k».proof.Proof.Stage

@[expose] public section

set_option maxRecDepth 16384

noncomputable section

namespace Cert.Path

open Idealize.ShloMosaic Idealize.SL.Sem Cert.KernelIdeal Cert.KernelIdeal.Facts₀ Cert.KernelIdeal.Facts

/-- The buffers of the body and what its inputs hold. -/
structure Point (F : FTy → Type) where
  c : Dev nD
  a1 : Memref sig .tc .vmem S1x896x96 .fp8e4m3
  h1 : a1.IsWhole
  a2 : Memref sig .tc .vmem S1x896x96 .fp8e4m3
  h2 : a2.IsWhole
  a3 : Memref sig .tc .vmem S1x896x96 .fp8e4m3
  h3 : a3.IsWhole
  a4 : Memref sig .tc .vmem S1x896x96 .bf16
  h4 : a4.IsWhole
  a5 : Memref sig .tc .vmem S32x16x128 .f32
  h5 : a5.IsWhole
  a6 : Memref sig .tc .vmem S1x896x1 .f32
  h6 : a6.IsWhole
  a7 : Memref sig .tc .vmem S1x14x64 .f32
  h7 : a7.IsWhole
  a8 : Memref sig .tc .vmem S1x1x896 .i32
  h8 : a8.IsWhole
  a9 : Memref sig .tc .vmem S1x896x1 .i32
  h9 : a9.IsWhole
  a11 : Memref sig .tc .vmem S96x896 .bf16
  a12 : Memref sig .tc .vmem S96x896 .bf16
  a13 : Memref sig .tc .vmem S96x896 .bf16
  x0 : Vec F S1x896x96 .fp8e4m3
  x1 : Vec F S1x896x96 .fp8e4m3
  x2 : Vec F S1x896x96 .fp8e4m3
  x3 : Vec F S1x896x96 .bf16
  x4 : Vec F S32x16x128 .f32
  x5 : Vec F S1x896x1 .f32
  x6 : Vec F S1x14x64 .f32
  x7 : Vec F S1x1x896 .i32
  x8 : Vec F S1x896x1 .i32

namespace Point

variable {F : FTy → Type} [FloatOps F] [Named F] (P : Point F)

theorem inbTokens {t w m : ℕ} (h : t + w ≤ 896) : ∀ a, (![0, t, 0] : Fin 3 → ℕ) a + (![1, w, m] : Fin 3 → ℕ) a ≤ (![1, 896, m] : Fin 3 → ℕ) a :=
  fun a => match a with | ⟨0, _⟩ => le_refl 1 | ⟨1, _⟩ => h | ⟨2, _⟩ => le_of_eq (Nat.zero_add m)

theorem inbKeys {t w : ℕ} (h : t + w ≤ 896) : ∀ a, (![0, 0, t] : Fin 3 → ℕ) a + (![1, 1, w] : Fin 3 → ℕ) a ≤ (![1, 1, 896] : Fin 3 → ℕ) a :=
  fun a => match a with | ⟨0, _⟩ => le_refl 1 | ⟨1, _⟩ => le_refl 1 | ⟨2, _⟩ => h

theorem inbChunk {n a b m : ℕ} (h : n + 1 ≤ b) : ∀ i, (![0, n, 0] : Fin 3 → ℕ) i + (![a, 1, m] : Fin 3 → ℕ) i ≤ (![a, b, m] : Fin 3 → ℕ) i :=
  fun i => match i with | ⟨0, _⟩ => le_of_eq (Nat.zero_add a) | ⟨1, _⟩ => h | ⟨2, _⟩ => le_of_eq (Nat.zero_add m)

theorem inbY {t w : ℕ} (h : t + w ≤ 896) : ∀ a, (![0, t] : Fin 2 → ℕ) a + (![96, w] : Fin 2 → ℕ) a ≤ (![96, 896] : Fin 2 → ℕ) a :=
  fun a => match a with | ⟨0, _⟩ => le_refl 96 | ⟨1, _⟩ => h

theorem castRow (w : ℕ) : (⟨3, ![1, 1, w]⟩ : Shape).ShapeCasts ⟨2, ![1, w]⟩ := by simp [Shape.ShapeCasts, Shape.numel, Fin.prod_univ_succ]
theorem castMat (w m : ℕ) : (⟨3, ![1, w, m]⟩ : Shape).ShapeCasts ⟨2, ![w, m]⟩ := by simp [Shape.ShapeCasts, Shape.numel, Fin.prod_univ_succ]

/-! ### The blocks of the chunk of tokens `t … t + 63` -/

def q (t : ℕ) (h : t + 64 ≤ 896) : FVec F S64x96 .fp8e4m3 :=
  Stage.tokens (P.a1.view.readAt (Elt F) (Rect.unit (s := S1x896x96) ![0, t, 0] S1x64x96.size (inbTokens h)).toLoadRect (P.h1.unread P.x0))
def k (t : ℕ) (h : t + 64 ≤ 896) : FVec F S64x96 .fp8e4m3 :=
  Stage.tokens (P.a2.view.readAt (Elt F) (Rect.unit (s := S1x896x96) ![0, t, 0] S1x64x96.size (inbTokens h)).toLoadRect (P.h2.unread P.x1))
def w (t : ℕ) (h : t + 64 ≤ 896) : FVec F S64x96 .fp8e4m3 :=
  Stage.tokens (P.a3.view.readAt (Elt F) (Rect.unit (s := S1x896x96) ![0, t, 0] S1x64x96.size (inbTokens h)).toLoadRect (P.h3.unread P.x2))
def qs (t : ℕ) (h : t + 64 ≤ 896) : FVec F S64x1 .f32 :=
  shapeCast S64x1 (P.a6.view.readAt (Elt F) (Rect.unit (s := S1x896x1) ![0, t, 0] S1x64x1.size (inbTokens h)).toLoadRect (P.h6.unread P.x5)) (castMat 64 1)
def segq (t : ℕ) (h : t + 64 ≤ 896) : IVec S64x1 32 :=
  shapeCast S64x1 (P.a9.view.readAt (Elt F) (Rect.unit (s := S1x896x1) ![0, t, 0] S1x64x1.size (inbTokens h)).toLoadRect (P.h9.unread P.x8)) (castMat 64 1)
def b (n : ℕ) (h : n + 1 ≤ 16) : FVec F S32x1x128 .f32 :=
  P.a5.view.readAt (Elt F) (Rect.unit (s := S32x16x128) ![0, n, 0] S32x1x128.size (inbChunk h)).toLoadRect (P.h5.unread P.x4)
def ks (n : ℕ) (h : n + 1 ≤ 14) : FVec F S1x64 .f32 :=
  shapeCast S1x64 (P.a7.view.readAt (Elt F) (Rect.unit (s := S1x14x64) ![0, n, 0] S1x1x64.size (inbChunk h)).toLoadRect (P.h7.unread P.x6)) (castRow 64)

/-! ### The blocks of `w` keys from `t` -/

def segk (w t : ℕ) (h : t + w ≤ 896) : IVec ⟨2, ![1, w]⟩ 32 :=
  shapeCast ⟨2, ![1, w]⟩ (P.a8.view.readAt (Elt F) (Rect.unit (s := S1x1x896) ![0, 0, t] ![1, 1, w] (inbKeys h)).toLoadRect (P.h8.unread P.x7)) (castRow w)
def v (w t : ℕ) (h : t + w ≤ 896) : FVec F ⟨2, ![w, 96]⟩ .bf16 :=
  shapeCast ⟨2, ![w, 96]⟩ (P.a4.view.readAt (Elt F) (Rect.unit (s := S1x896x96) ![0, t, 0] ![1, w, 96] (inbTokens h)).toLoadRect (P.h4.unread P.x3)) (castMat w 96)

/-! ### The values of chunk `n` -/

section
variable (n : ℕ) (h : n < 14)

theorem tok (h : n < 14) : 64 * n + 64 ≤ 896 := by omega
theorem ch (h : n < 14) : n + 1 ≤ 16 := by omega
theorem ch' (h : n < 14) : n + 1 ≤ 14 := by omega

def sdiag : FVec F S64x64 .f32 :=
  Stage.own (Stage.sdiag (P.q (64 * n) (tok n h)) (P.k (64 * n) (tok n h)) (P.w (64 * n) (tok n h)) (P.b n (ch n h)) (P.qs (64 * n) (tok n h)) (P.ks n (ch' n h)))
    (P.segq (64 * n) (tok n h)) (P.segk 64 (64 * n) (tok n h))
def qhat : FVec F S64x96 .bf16 :=
  Stage.qhat (P.q (64 * n) (tok n h)) (P.k (64 * n) (tok n h)) (P.w (64 * n) (tok n h)) (P.b n (ch n h)) (P.qs (64 * n) (tok n h))
def khat : FVec F S96x64 .f32 :=
  Stage.khat (P.q (64 * n) (tok n h)) (P.k (64 * n) (tok n h)) (P.w (64 * n) (tok n h)) (P.b n (ch n h)) (P.ks n (ch' n h))
def refl : FVec F S96x96 .f32 :=
  Stage.refl (P.q (64 * n) (tok n h)) (P.k (64 * n) (tok n h)) (P.w (64 * n) (tok n h)) (P.b n (ch n h))

variable {W : ℕ} (t : ℕ) (ht : t + W ≤ 896)

/-- A list of stores. -/
abbrev Stores (F : FTy → Type) := List (View.Piece (Elt F) S96x896 .bf16)

/-- What a load of `W` keys from `t` reads after stores. -/
def load (a : Memref sig .tc .vmem S96x896 .bf16) (L : Stores F) (W t : ℕ) (ht : t + W ≤ 896) : FVec F ⟨2, ![96, W]⟩ .bf16 :=
  a.view.readCov L (Rect.unit (s := S96x896) ![0, t] ![96, W] (inbY ht)).toLoadRect

/-- A store of `W` keys from `t`. -/
def store (W t : ℕ) (ht : t + W ≤ 896) (x : FVec F ⟨2, ![96, W]⟩ .bf16) : View.Piece (Elt F) S96x896 .bf16 :=
  ⟨Rect.unit (s := S96x896) ![0, t] ![96, W] (inbY ht), shapeCast ⟨2, ![96, W]⟩ x rfl⟩

/-- The keys before chunk `n` are read 256 at a time: the width of span `j`. -/
def width (n j : ℕ) : ℕ := min 256 (64 * n - 256 * j)

theorem inSpan {n j : ℕ} (h : n < 14) (hj : j < 4) : 256 * j + width n j ≤ 896 := by unfold width; omega

theorem spanCount {n : ℕ} (h : n < 14) : (n + 3) / 4 ≤ 4 := by omega

variable (L1 L2 L3 : Stores F)

/-- The keys of span `j`, reflected past chunk `n`. -/
def moved (j : ℕ) (hj : j < 4) : FVec F ⟨2, ![96, width n j]⟩ .f32 :=
  Stage.reflected (P.refl n h) (P.qhat n h) (load P.a11 L1 (width n j) (256 * j) (inSpan h hj)) (load P.a12 L2 (width n j) (256 * j) (inSpan h hj))
    (load P.a13 L3 (width n j) (256 * j) (inSpan h hj))

/-- The scores of chunk `n` against the keys of span `j`. -/
def past (j : ℕ) (hj : j < 4) : FVec F ⟨2, ![64, width n j]⟩ .f32 :=
  Stage.seen
    (if n < 13 then
      Stage.against (P.refl n h) (P.qhat n h) (load P.a11 L1 (width n j) (256 * j) (inSpan h hj)) (load P.a12 L2 (width n j) (256 * j) (inSpan h hj))
    else Stage.againstLast (P.qhat n h) (load P.a11 L1 (width n j) (256 * j) (inSpan h hj)))
    (P.segq (64 * n) (tok n h)) (P.segk (width n j) (256 * j) (inSpan h hj))

/-- The stores of the first `J` spans of chunk `n` into one of the three buffers, of the part `f` of the keys. -/
def spanStores (f : ∀ {s : Shape}, FVec F s .f32 → FVec F s .bf16) (L : Stores F) : ∀ J, J ≤ 4 → Stores F
  | 0, _ => L
  | J + 1, hJ => store (width n J) (256 * J) (inSpan h hJ) (f (P.moved n h L1 L2 L3 J hJ)) :: spanStores f L J (Nat.le_of_succ_le hJ)

/-- All stores of chunk `n` into one of the three buffers. -/
def stores (f : ∀ {s : Shape}, FVec F s .f32 → FVec F s .bf16) (L : Stores F) : Stores F :=
  store 64 (64 * n) (tok n h) (f (P.khat n h)) :: P.spanStores n h L1 L2 L3 f L ((n + 3) / 4) (spanCount h)

/-- The largest score over the own chunk and the first `J` spans. -/
def tops : ∀ J, J ≤ 4 → FVec F S64x1 .f32
  | 0, _ => Stage.top (P.sdiag n h)
  | J + 1, hJ => maximumf (tops J (Nat.le_of_succ_le hJ)) (Stage.top (P.past n h L1 L2 J hJ))

/-- The sum of the weights over the own chunk and the first `J` spans. -/
def totals (m : FVec F S64x1 .f32) : ∀ J, J ≤ 4 → FVec F S64x1 .f32
  | 0, _ => Stage.total (P.sdiag n h) m Stage.noTotal
  | J + 1, hJ => Stage.total (P.past n h L1 L2 J hJ) m (totals m J (Nat.le_of_succ_le hJ))

/-- The sum of the weighted values over the own chunk and the first `J` spans. -/
def sums (m : FVec F S64x1 .f32) : ∀ J, J ≤ 4 → FVec F S64x96 .f32
  | 0, _ => Stage.weighted (P.sdiag n h) m Stage.noValue (P.v 64 (64 * n) (tok n h))
  | J + 1, hJ => Stage.weighted (P.past n h L1 L2 J hJ) m (sums m J (Nat.le_of_succ_le hJ)) (P.v (width n J) (256 * J) (inSpan h hJ))

def peak : FVec F S64x1 .f32 := P.tops n h L1 L2 ((n + 3) / 4) (spanCount h)

/-- The result of chunk `n`. -/
def out : FVec F S1x64x96 .bf16 :=
  Stage.mean (P.totals n h L1 L2 (P.peak n h L1 L2) ((n + 3) / 4) (spanCount h)) (P.sums n h L1 L2 (P.peak n h L1 L2) ((n + 3) / 4) (spanCount h))

/-- The stores of the first `n` chunks into the three buffers. -/
def ys : ∀ n, n ≤ 14 → Stores F × Stores F × Stores F
  | 0, _ => ([], [], [])
  | n + 1, h =>
    (P.stores n h (ys n (Nat.le_of_succ_le h)).1 (ys n (Nat.le_of_succ_le h)).2.1 (ys n (Nat.le_of_succ_le h)).2.2 Stage.part1 (ys n (Nat.le_of_succ_le h)).1,
     P.stores n h (ys n (Nat.le_of_succ_le h)).1 (ys n (Nat.le_of_succ_le h)).2.1 (ys n (Nat.le_of_succ_le h)).2.2 Stage.part2 (ys n (Nat.le_of_succ_le h)).2.1,
     P.stores n h (ys n (Nat.le_of_succ_le h)).1 (ys n (Nat.le_of_succ_le h)).2.1 (ys n (Nat.le_of_succ_le h)).2.2 Stage.part3 (ys n (Nat.le_of_succ_le h)).2.2)

/-- The result of chunk `n`, from the keys as the chunks before it leave them. -/
def result (n : ℕ) (h : n < 14) : FVec F S1x64x96 .bf16 := P.out n h (P.ys n h.le).1 (P.ys n h.le).2.1

/-- The store of chunk `n`'s result into the output block. -/
def outPiece (n : ℕ) (h : n < 14) (x : FVec F S1x64x96 .bf16) : View.Piece (Elt F) S1x896x96 .bf16 :=
  ⟨Rect.unit (s := S1x896x96) ![0, 64 * n, 0] S1x64x96.size (inbTokens (tok n h)), x⟩

/-- The stores of the first `n` chunks into the output block. -/
def outStores : ∀ n, n ≤ 14 → List (View.Piece (Elt F) S1x896x96 .bf16)
  | 0, _ => []
  | n + 1, h => outPiece n h (P.result n h) :: outStores n (Nat.le_of_succ_le h)

end

end Point

end Cert.Path
-- ==== Proof.Read.lean ====
/- Matrices of extended reals read by their coordinates: `Reads v f` says that the matrix `v` holds `f i j` at row `i`
   and column `j`, `Reals v f` that it holds the real number `f i j` there. One lemma per operation of the kernel's
   body says what the result holds when the operands are known. -/
module

public import Idealize.ShloMosaic.Lib.Pointwise
public import Idealize.ShloMosaic.Lib.MatmulPlain
public import Idealize.ShloMosaic.Lib.WordCmp

@[expose] public section

set_option maxRecDepth 16384

noncomputable section

open scoped BigOperators

namespace Cert.Path

open Idealize.ShloMosaic

/-- The matrix holds `f i j` at row `i`, column `j`. -/
def Reads {M N : ℕ} {φ : FTy} (v : FVec Ideal ⟨2, ![M, N]⟩ φ) (f : ℕ → ℕ → EReal) : Prop :=
  ∀ (i : Fin M) (j : Fin N), v (ix2 i j) = f i.val j.val

/-- The matrix holds the real number `f i j` at row `i`, column `j`. -/
def Reals {M N : ℕ} {φ : FTy} (v : FVec Ideal ⟨2, ![M, N]⟩ φ) (f : ℕ → ℕ → ℝ) : Prop :=
  Reads v fun i j => ((f i j : ℝ) : EReal)

section Ops
variable {M N K : ℕ} {φ ψ : FTy}

/-- Only the entries inside the matrix matter. -/
theorem Reads.congr {v : FVec Ideal ⟨2, ![M, N]⟩ φ} {f g : ℕ → ℕ → EReal} (h : Reads v f)
    (e : ∀ i < M, ∀ j < N, f i j = g i j) : Reads v g :=
  fun i j => (h i j).trans (e i.val i.isLt j.val j.isLt)

/-- Only the entries inside the matrix matter. -/
theorem Reals.congr {v : FVec Ideal ⟨2, ![M, N]⟩ φ} {f g : ℕ → ℕ → ℝ} (h : Reals v f)
    (e : ∀ i < M, ∀ j < N, f i j = g i j) : Reals v g :=
  Reads.congr h fun i hi j hj => by rw [e i hi j hj]

/-- Rounding changes nothing. -/
theorem Reals.truncf {v : FVec Ideal ⟨2, ![M, N]⟩ φ} {f : ℕ → ℕ → ℝ} (h : Reals v f) (hb : ψ.bits < φ.bits) :
    Reals (truncf ψ v hb) f := h
/-- Widening changes nothing. -/
theorem Reals.extf {v : FVec Ideal ⟨2, ![M, N]⟩ φ} {f : ℕ → ℕ → ℝ} (h : Reals v f) (hb : φ.bits < ψ.bits) :
    Reals (extf ψ v hb) f := h

/-- A sum, entry by entry. -/
theorem Reals.addf {v w : FVec Ideal ⟨2, ![M, N]⟩ φ} {f g : ℕ → ℕ → ℝ} (h : Reals v f) (h' : Reals w g) :
    Reals (addf v w) fun i j => f i j + g i j :=
  fun i j => (congrArg₂ (· + ·) (h i j) (h' i j)).trans (EReal.coe_add _ _).symm
/-- A difference, entry by entry. -/
theorem Reals.subf {v w : FVec Ideal ⟨2, ![M, N]⟩ φ} {f g : ℕ → ℕ → ℝ} (h : Reals v f) (h' : Reals w g) :
    Reals (subf v w) fun i j => f i j - g i j :=
  fun i j => (congrArg₂ (· - ·) (h i j) (h' i j)).trans (EReal.coe_sub _ _).symm
/-- A product, entry by entry. -/
theorem Reals.mulf {v w : FVec Ideal ⟨2, ![M, N]⟩ φ} {f g : ℕ → ℕ → ℝ} (h : Reals v f) (h' : Reals w g) :
    Reals (mulf v w) fun i j => f i j * g i j :=
  fun i j => (congrArg₂ (· * ·) (h i j) (h' i j)).trans (EReal.coe_mul _ _).symm

/-- What rounding leaves out is nothing. -/
theorem Reals.rest {v w : FVec Ideal ⟨2, ![M, N]⟩ φ} {f : ℕ → ℕ → ℝ} (h : Reals v f) (h' : Reals w f) :
    Reals (Idealize.ShloMosaic.subf v w) fun _ _ => 0 :=
  (h.subf h').congr fun i _ j _ => sub_self _

/-- The zero matrix of a scalar broadcast. -/
theorem Reals.zero (b : BitVec φ.bits) (hb : Ideal.ofBits φ b = 0) :
    Reals (broadcast (⟨2, ![M, N]⟩ : Shape) (Scalar.ofBits φ b : Ideal φ)) fun _ _ => 0 :=
  fun i j => hb.trans EReal.coe_zero.symm

/-- A finite sum of reals is taken in the reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A matrix product, from the zero accumulator. -/
theorem Reals.matmul {v : FVec Ideal ⟨2, ![M, K]⟩ φ} {w : FVec Ideal ⟨2, ![K, N]⟩ ψ} {f g : ℕ → ℕ → ℝ}
    (h : Reals v f) (h' : Reals w g) :
    Reals (matmul (DotDims.plain M K N) none v w (constant (⟨2, ![M, N]⟩ : Shape) .f32 0x00000000#32))
      fun i j => ∑ k ∈ Finset.range K, f i k * g k j := fun i j => by
  show _ = ((∑ k ∈ Finset.range K, _ : ℝ) : EReal)
  rw [Finset.sum_range, coe_sum]
  refine (Ideal.matmul_plain_apply none v w _ i j).trans ?_
  refine (congrArg₂ (· + ·) (show _ = (0 : EReal) from Ideal.ofBits_zero_f32) (Finset.sum_congr rfl fun k _ => ?_)).trans (zero_add _)
  exact (congrArg₂ (· * ·) (h i k) (h' k j)).trans (EReal.coe_mul _ _).symm

/-- A matrix product with the right operand's transpose, from the zero accumulator. -/
theorem Reals.matmulT {v : FVec Ideal ⟨2, ![M, K]⟩ φ} {w : FVec Ideal ⟨2, ![N, K]⟩ ψ} {f g : ℕ → ℕ → ℝ}
    (h : Reals v f) (h' : Reals w g) :
    Reals (Idealize.ShloMosaic.matmul (DotDims.transposedRhs M K N) none v w (constant (⟨2, ![M, N]⟩ : Shape) .f32 0x00000000#32))
      fun i j => ∑ k ∈ Finset.range K, f i k * g j k := fun i j => by
  show _ = ((∑ k ∈ Finset.range K, _ : ℝ) : EReal)
  rw [Finset.sum_range, coe_sum]
  refine (Ideal.matmul_transposedRhs_apply none v w _ i j).trans ?_
  refine (congrArg₂ (· + ·) (show _ = (0 : EReal) from Ideal.ofBits_zero_f32) (Finset.sum_congr rfl fun k _ => ?_)).trans (zero_add _)
  exact (congrArg₂ (· * ·) (h i k) (h' j k)).trans (EReal.coe_mul _ _).symm

/-- The block at `(a, b)`. -/
theorem Reals.slice {M' N' a b : ℕ} {v : FVec Ideal ⟨2, ![M, N]⟩ φ} {f : ℕ → ℕ → ℝ} (h : Reals v f)
    (hs : (⟨2, ![M, N]⟩ : Shape).Slices ![a, b] ⟨2, ![M', N']⟩) :
    Reals (extractStridedSlice ⟨2, ![M', N']⟩ ![a, b] v hs) fun i j => f (a + i) (b + j) := fun i j => by
  refine Eq.trans (congrArg v ?_) (h ⟨a + i.val, Nat.lt_of_lt_of_le (Nat.add_lt_add_left i.isLt _) (hs.2 0)⟩
    ⟨b + j.val, Nat.lt_of_lt_of_le (Nat.add_lt_add_left j.isLt _) (hs.2 1)⟩)
  funext d; match d with | ⟨0, _⟩ => rfl | ⟨1, _⟩ => rfl

/-- The transpose. -/
theorem Reals.transpose {v : FVec Ideal ⟨2, ![M, N]⟩ φ} {f : ℕ → ℕ → ℝ} (h : Reals v f)
    (hs : (⟨2, ![M, N]⟩ : Shape).Transposes [1, 0] ⟨2, ![N, M]⟩) :
    Reals (transpose ⟨2, ![N, M]⟩ [1, 0] v hs) fun i j => f j i := fun i j => by
  refine Eq.trans (congrArg v ?_) (h j i)
  funext d; match d with | ⟨0, _⟩ => rfl | ⟨1, _⟩ => rfl

/-- A column repeated along the rows. -/
theorem Reads.cols {v : FVec Ideal ⟨2, ![M, 1]⟩ φ} {f : ℕ → ℕ → EReal} (h : Reads v f)
    (hs : (⟨2, ![M, 1]⟩ : Shape).Broadcasts ⟨2, ![M, N]⟩) :
    Reads (broadcastTo ⟨2, ![M, N]⟩ v hs) fun i _ => f i 0 := fun i j => by
  by_cases hM : M = 1
  · subst hM
    refine Eq.trans (congrArg v ?_) (h i 0)
    funext d; match d with | ⟨0, _⟩ => exact (dif_pos rfl).trans (Subsingleton.elim (α := Fin 1) _ _) | ⟨1, _⟩ => rfl
  refine Eq.trans (congrArg v ?_) (h i 0)
  funext d; match d with | ⟨0, _⟩ => exact (dif_neg hM).trans rfl | ⟨1, _⟩ => rfl

/-- A row repeated along the columns. -/
theorem Reads.rows {v : FVec Ideal ⟨2, ![1, N]⟩ φ} {f : ℕ → ℕ → EReal} (h : Reads v f)
    (hs : (⟨2, ![1, N]⟩ : Shape).Broadcasts ⟨2, ![M, N]⟩) :
    Reads (broadcastTo ⟨2, ![M, N]⟩ v hs) fun _ j => f 0 j := fun i j => by
  by_cases hM : N = 1
  · subst hM
    refine Eq.trans (congrArg v ?_) (h 0 j)
    funext d; match d with | ⟨0, _⟩ => rfl | ⟨1, _⟩ => exact (dif_pos rfl).trans (Subsingleton.elim (α := Fin 1) _ _)
  refine Eq.trans (congrArg v ?_) (h 0 j)
  funext d; match d with | ⟨0, _⟩ => rfl | ⟨1, _⟩ => exact (dif_neg hM).trans rfl

end Ops

section Concat
variable {M N : ℕ} {φ : FTy}

/-- The first `a` columns from `f`, the rest from `g`. -/
def beside (a : ℕ) (f g : ℕ → ℕ → ℝ) : ℕ → ℕ → ℝ := fun i j => if j < a then f i j else g i (j - a)

/-- The first `a` rows from `f`, the rest from `g`. -/
def above (a : ℕ) (f g : ℕ → ℕ → ℝ) : ℕ → ℕ → ℝ := fun i j => if i < a then f i j else g (i - a) j

/-- The pieces in a row (along axis `a`) hold `F c` at position `c`, along the line of `j`. -/
def Line {t : Shape} (a : Fin t.rank) (j : t.Idx) (xs : List ((s : Shape) × (s.Idx → EReal))) (F : ℕ → ℝ) : Prop :=
  ∀ hs c hc, concatenateAt t a j xs hs c hc = ((F c : ℝ) : EReal)

theorem Line.one1 {a : ℕ} {x : FVec Ideal ⟨2, ![M, a]⟩ φ} {f : ℕ → ℕ → ℝ} (hx : Reals x f) (i : Fin M) (j : Fin N) :
    Line (t := ⟨2, ![M, N]⟩) 1 (ix2 i j) [⟨⟨2, ![M, a]⟩, x⟩] (f i) := fun hs c hc => by
  have hc' : c < a := by simpa [axisSizes] using hc
  refine (concatenateAt_singleton ..).trans ?_
  refine Eq.trans (congrArg x ?_) (hx i ⟨c, hc'⟩)
  funext d; match d with | ⟨0, _⟩ => rfl | ⟨1, _⟩ => rfl

theorem Line.one0 {a : ℕ} {x : FVec Ideal ⟨2, ![a, N]⟩ φ} {f : ℕ → ℕ → ℝ} (hx : Reals x f) (i : Fin M) (j : Fin N) :
    Line (t := ⟨2, ![M, N]⟩) 0 (ix2 i j) [⟨⟨2, ![a, N]⟩, x⟩] (fun c => f c j) := fun hs c hc => by
  have hc' : c < a := by simpa [axisSizes] using hc
  refine (concatenateAt_singleton ..).trans ?_
  refine Eq.trans (congrArg x ?_) (hx ⟨c, hc'⟩ j)
  funext d; match d with | ⟨0, _⟩ => rfl | ⟨1, _⟩ => rfl

theorem Line.cons1 {a : ℕ} {x : FVec Ideal ⟨2, ![M, a]⟩ φ} {f g : ℕ → ℕ → ℝ} (hx : Reals x f) {i : Fin M} {j : Fin N}
    {q} {xs} (hq : Line (t := ⟨2, ![M, N]⟩) 1 (ix2 i j) (q :: xs) (g i)) :
    Line (t := ⟨2, ![M, N]⟩) 1 (ix2 i j) (⟨⟨2, ![M, a]⟩, x⟩ :: q :: xs) (beside a f g i) := fun hs c hc => by
  rw [concatenateAt_cons]
  refine Eq.trans ?_ (congrArg Real.toEReal (show (if c < a then f i c else g i (c - a)) = _ from rfl))
  by_cases h1 : c < a
  · rw [if_pos h1]
    refine (dif_pos h1).trans (Eq.trans (congrArg x ?_) (hx i ⟨c, h1⟩))
    funext d; match d with | ⟨0, _⟩ => rfl | ⟨1, _⟩ => rfl
  · rw [if_neg h1]
    exact (dif_neg h1).trans (hq _ _ _)

theorem Line.cons0 {a : ℕ} {x : FVec Ideal ⟨2, ![a, N]⟩ φ} {f g : ℕ → ℕ → ℝ} (hx : Reals x f) {i : Fin M} {j : Fin N}
    {q} {xs} (hq : Line (t := ⟨2, ![M, N]⟩) 0 (ix2 i j) (q :: xs) (fun c => g c j)) :
    Line (t := ⟨2, ![M, N]⟩) 0 (ix2 i j) (⟨⟨2, ![a, N]⟩, x⟩ :: q :: xs) (fun c => above a f g c j) := fun hs c hc => by
  rw [concatenateAt_cons]
  refine Eq.trans ?_ (congrArg Real.toEReal (show (if c < a then f c j else g (c - a) j) = _ from rfl))
  by_cases h1 : c < a
  · rw [if_pos h1]
    refine (dif_pos h1).trans (Eq.trans (congrArg x ?_) (hx ⟨c, h1⟩ j))
    funext d; match d with | ⟨0, _⟩ => rfl | ⟨1, _⟩ => rfl
  · rw [if_neg h1]
    exact (dif_neg h1).trans (hq _ _ _)

section
variable {a b c d : ℕ} {f g h k : ℕ → ℕ → ℝ}

/-- Matrices side by side. -/
theorem Reals.cat1_2 {x : FVec Ideal ⟨2, ![M, a]⟩ φ} {y : FVec Ideal ⟨2, ![M, b]⟩ φ} (hx : Reals x f) (hy : Reals y g)
    (hc : Shape.Concatenates [⟨2, ![M, a]⟩, ⟨2, ![M, b]⟩] ⟨2, ![M, N]⟩ 1) :
    Reals (φ := φ) (concatenate ⟨2, ![M, N]⟩ 1 [⟨⟨2, ![M, a]⟩, x⟩, ⟨⟨2, ![M, b]⟩, y⟩] hc) (beside a f g) := fun i j =>
  (concatenate_cons_apply ..).trans ((Line.cons1 hx (Line.one1 hy i j)) _ _ _)

/-- Matrices side by side. -/
theorem Reals.cat1_3 {x : FVec Ideal ⟨2, ![M, a]⟩ φ} {y : FVec Ideal ⟨2, ![M, b]⟩ φ} {z : FVec Ideal ⟨2, ![M, c]⟩ φ}
    (hx : Reals x f) (hy : Reals y g) (hz : Reals z h)
    (hc : Shape.Concatenates [⟨2, ![M, a]⟩, ⟨2, ![M, b]⟩, ⟨2, ![M, c]⟩] ⟨2, ![M, N]⟩ 1) :
    Reals (φ := φ) (concatenate ⟨2, ![M, N]⟩ 1 [⟨⟨2, ![M, a]⟩, x⟩, ⟨⟨2, ![M, b]⟩, y⟩, ⟨⟨2, ![M, c]⟩, z⟩] hc)
      (beside a f (beside b g h)) := fun i j =>
  (concatenate_cons_apply ..).trans ((Line.cons1 hx (Line.cons1 hy (Line.one1 hz i j))) _ _ _)

/-- Matrices side by side. -/
theorem Reals.cat1_4 {x : FVec Ideal ⟨2, ![M, a]⟩ φ} {y : FVec Ideal ⟨2, ![M, b]⟩ φ} {z : FVec Ideal ⟨2, ![M, c]⟩ φ}
    {w : FVec Ideal ⟨2, ![M, d]⟩ φ} (hx : Reals x f) (hy : Reals y g) (hz : Reals z h) (hw : Reals w k)
    (hc : Shape.Concatenates [⟨2, ![M, a]⟩, ⟨2, ![M, b]⟩, ⟨2, ![M, c]⟩, ⟨2, ![M, d]⟩] ⟨2, ![M, N]⟩ 1) :
    Reals (φ := φ) (concatenate ⟨2, ![M, N]⟩ 1
      [⟨⟨2, ![M, a]⟩, x⟩, ⟨⟨2, ![M, b]⟩, y⟩, ⟨⟨2, ![M, c]⟩, z⟩, ⟨⟨2, ![M, d]⟩, w⟩] hc)
      (beside a f (beside b g (beside c h k))) := fun i j =>
  (concatenate_cons_apply ..).trans ((Line.cons1 hx (Line.cons1 hy (Line.cons1 hz (Line.one1 hw i j)))) _ _ _)

/-- Matrices one above the other. -/
theorem Reals.cat0_2 {x : FVec Ideal ⟨2, ![a, N]⟩ φ} {y : FVec Ideal ⟨2, ![b, N]⟩ φ} (hx : Reals x f) (hy : Reals y g)
    (hc : Shape.Concatenates [⟨2, ![a, N]⟩, ⟨2, ![b, N]⟩] ⟨2, ![M, N]⟩ 0) :
    Reals (φ := φ) (concatenate ⟨2, ![M, N]⟩ 0 [⟨⟨2, ![a, N]⟩, x⟩, ⟨⟨2, ![b, N]⟩, y⟩] hc) (above a f g) := fun i j =>
  (concatenate_cons_apply ..).trans ((Line.cons0 hx (Line.one0 hy i j)) _ _ _)

/-- Matrices one above the other. -/
theorem Reals.cat0_3 {x : FVec Ideal ⟨2, ![a, N]⟩ φ} {y : FVec Ideal ⟨2, ![b, N]⟩ φ} {z : FVec Ideal ⟨2, ![c, N]⟩ φ}
    (hx : Reals x f) (hy : Reals y g) (hz : Reals z h)
    (hc : Shape.Concatenates [⟨2, ![a, N]⟩, ⟨2, ![b, N]⟩, ⟨2, ![c, N]⟩] ⟨2, ![M, N]⟩ 0) :
    Reals (φ := φ) (concatenate ⟨2, ![M, N]⟩ 0 [⟨⟨2, ![a, N]⟩, x⟩, ⟨⟨2, ![b, N]⟩, y⟩, ⟨⟨2, ![c, N]⟩, z⟩] hc)
      (above a f (above b g h)) := fun i j =>
  (concatenate_cons_apply ..).trans ((Line.cons0 hx (Line.cons0 hy (Line.one0 hz i j))) _ _ _)

/-- Matrices one above the other. -/
theorem Reals.cat0_4 {x : FVec Ideal ⟨2, ![a, N]⟩ φ} {y : FVec Ideal ⟨2, ![b, N]⟩ φ} {z : FVec Ideal ⟨2, ![c, N]⟩ φ}
    {w : FVec Ideal ⟨2, ![d, N]⟩ φ} (hx : Reals x f) (hy : Reals y g) (hz : Reals z h) (hw : Reals w k)
    (hc : Shape.Concatenates [⟨2, ![a, N]⟩, ⟨2, ![b, N]⟩, ⟨2, ![c, N]⟩, ⟨2, ![d, N]⟩] ⟨2, ![M, N]⟩ 0) :
    Reals (φ := φ) (concatenate ⟨2, ![M, N]⟩ 0
      [⟨⟨2, ![a, N]⟩, x⟩, ⟨⟨2, ![b, N]⟩, y⟩, ⟨⟨2, ![c, N]⟩, z⟩, ⟨⟨2, ![d, N]⟩, w⟩] hc)
      (above a f (above b g (above c h k))) := fun i j =>
  (concatenate_cons_apply ..).trans ((Line.cons0 hx (Line.cons0 hy (Line.cons0 hz (Line.one0 hw i j)))) _ _ _)

/-- A product whose inner dimension comes in two parts. -/
theorem sum_parts (n m : ℕ) (f : ℕ → ℝ) :
    ∑ k ∈ Finset.range (n + m), f k = ∑ k ∈ Finset.range n, f k + ∑ k ∈ Finset.range m, f (n + k) :=
  Finset.sum_range_add f n m

/-- A product whose inner dimension comes in two parts. -/
theorem sum_beside_above {n m N : ℕ} (hN : N = n + m) (f g f' g' : ℕ → ℕ → ℝ) (i j : ℕ) :
    ∑ k ∈ Finset.range N, beside n f g i k * above n f' g' k j
      = ∑ k ∈ Finset.range n, f i k * f' k j + ∑ k ∈ Finset.range m, g i k * g' k j := by
  subst hN
  rw [sum_parts]
  refine congrArg₂ (· + ·) (Finset.sum_congr rfl fun k hk => ?_) (Finset.sum_congr rfl fun k _ => ?_)
  · have := Finset.mem_range.mp hk
    simp [beside, above, this]
  · simp [beside, above]

end

end Concat

/-- A number below `2 ^ 31` is its own 32-bit word. -/
theorem word_int {a : ℕ} (h : a < 2147483648) : (BitVec.ofNat 32 a).toInt = a := by
  rw [BitVec.toInt_eq_toNat_of_lt] <;> simp only [BitVec.toNat_ofNat] <;> omega

theorem ofBool_eq_one {p : Prop} [Decidable p] : BitVec.ofBool (decide p) = 1#1 ↔ p := by
  by_cases h : p <;> simp [h]

/-- Words of small numbers compare as the numbers. -/
theorem word_sge {a b : ℕ} (ha : a < 2147483648) (hb : b < 2147483648) :
    IntOp.cmpi .sge (BitVec.ofNat 32 a) (BitVec.ofNat 32 b) = 1#1 ↔ b ≤ a := by
  rw [WordCmp.cmpi_sge_eq, ofBool_eq_one, word_int ha, word_int hb]; omega
theorem word_sgt {a b : ℕ} (ha : a < 2147483648) (hb : b < 2147483648) :
    IntOp.cmpi .sgt (BitVec.ofNat 32 a) (BitVec.ofNat 32 b) = 1#1 ↔ b < a := by
  rw [WordCmp.cmpi_sgt_eq, ofBool_eq_one, word_int ha, word_int hb]; omega
theorem word_slt {a b : ℕ} (ha : a < 2147483648) (hb : b < 2147483648) :
    IntOp.cmpi .slt (BitVec.ofNat 32 a) (BitVec.ofNat 32 b) = 1#1 ↔ a < b := by
  rw [WordCmp.cmpi_slt_eq, ofBool_eq_one, word_int ha, word_int hb]; omega
theorem word_eq {x y : BitVec 32} : IntOp.cmpi .eq x y = 1#1 ↔ x = y := by
  rw [WordCmp.cmpi_eq_eq, ofBool_eq_one]

/-- The number along an axis. -/
theorem iota_word {κ : Kind} {s : Shape} (d : Fin s.rank) (h : s.Iotas κ 32 [d]) (j : s.Idx) : iota κ s 32 [d] h j = BitVec.ofNat 32 (j d).val := by
  show BitVec.ofNat 32 (0 * s.size d + (j d).val) = _
  rw [Nat.zero_mul, Nat.zero_add]

end Cert.Path
-- ==== Proof.Chunk.lean ====
/- What one chunk's operations compute of real entries: the chunk's own products, its scores, the reflected queries and
   keys, and the span products. -/
module

public import proofs.«01_k».proof.Proof.Stage
public import proofs.«01_k».proof.Proof.Read

@[expose] public section

set_option maxRecDepth 16384

noncomputable section

namespace Cert.Path

open Idealize.ShloMosaic Cert.KernelIdeal Cert.KernelIdeal.Facts₀ Cert.KernelIdeal.Facts

/-! ### The chunk's products, in the reals -/

section
variable (Q K W B : ℕ → ℕ → ℝ)

/-- Queries against reflection vectors up to their own. -/
def cqw (t s : ℕ) : ℝ := if s ≤ t then ∑ e ∈ Finset.range 96, Q t e * W s e else 0
/-- Reflection vectors against the keys before their own. -/
def cwk (s j : ℕ) : ℝ := if j < s then ∑ e ∈ Finset.range 96, W s e * K j e else 0
/-- The inverse against `cwk`. -/
def cxk (r j : ℕ) : ℝ := ∑ s ∈ Finset.range 64, B r s * cwk K W s j
/-- The inverse against the reflection vectors. -/
def cxw (r e : ℕ) : ℝ := ∑ s ∈ Finset.range 64, B r s * W s e

end

section
variable {s : Shape} {M N : ℕ} {x : FVec Ideal ⟨2, ![M, N]⟩ .f32} {f : ℕ → ℕ → ℝ}

theorem Reals.part1 (h : Reals x f) : Reals (Stage.part1 x) f := h.truncf _
theorem Reals.part2 (h : Reals x f) : Reals (Stage.part2 x) fun _ _ => 0 := Reals.truncf (h.rest (h.part1.extf _)) _
theorem Reals.part3 (h : Reals x f) : Reals (Stage.part3 x) fun _ _ => 0 :=
  Reals.truncf (Reals.rest (h.rest (h.part1.extf _)) (Reals.extf (Reals.truncf (h.rest (h.part1.extf _)) _) _)) _

end

theorem ofBits_zero_bf16 : Ideal.ofBits .bf16 0x0000#16 = 0 := by
  simp [Ideal.ofBits, Ideal.ieee]

/-- A product of four blocks, of which only the first counts. -/
theorem sum_four {n m N : ℕ} (f1 f2 f3 f4 g1 g2 g3 g4 : ℕ → ℕ → ℝ) (i j : ℕ)
    (h2 : ∀ k, f2 i k * g2 k j = 0) (h3 : ∀ k, f3 i k * g3 k j = 0) (h4 : ∀ k, f4 i k * g4 k j = 0) :
    ∑ k ∈ Finset.range 256, beside 64 f1 (beside 64 f2 (beside 64 f3 f4)) i k * above 64 g1 (above 64 g2 (above 64 g3 g4)) k j
      = ∑ k ∈ Finset.range 64, f1 i k * g1 k j := by
  rw [sum_beside_above (show 256 = 64 + 192 from rfl), sum_beside_above (show 192 = 64 + 128 from rfl),
    sum_beside_above (show 128 = 64 + 64 from rfl)]
  simp [h2, h3, h4]

section
variable {q k w : FVec Ideal S64x96 .fp8e4m3} {b : FVec Ideal S32x1x128 .f32} {Q K W B : ℕ → ℕ → ℝ}
  (hq : Reals q Q) (hk : Reals k K) (hw : Reals w W) (hb : Reals (Stage.inverse b) B)

include hq hk hw in
theorem reals_dots : Reals (Stage.dots q k w) fun i j => ∑ e ∈ Finset.range 96, above 64 Q W i e * above 64 W K j e :=
  Reals.matmulT (hq.cat0_2 hw _) (hw.cat0_2 hk _)

include hq hk hw in
theorem reals_qk : Reals (Stage.qk q k w) fun i j => ∑ e ∈ Finset.range 96, Q i e * K j e :=
  ((reals_dots hq hk hw).slice _).congr fun i hi j hj => by simp [above, hi]

/-- A choice between a real matrix and zero. -/
theorem Reals.keep {M N : ℕ} {x : FVec Ideal ⟨2, ![M, N]⟩ .f32} {f : ℕ → ℕ → ℝ} (h : Reals x f)
    {c : IVec ⟨2, ![M, N]⟩ 1} {p : ℕ → ℕ → Prop} [∀ i j, Decidable (p i j)]
    (hc : ∀ (i : Fin M) (j : Fin N), c (ix2 i j) = 1#1 ↔ p i j) :
    Reals (select c x (broadcast ⟨2, ![M, N]⟩ (Scalar.ofBits .f32 0x00000000#32))) fun i j => if p i j then f i j else 0 := fun i j => by
  show (if c (ix2 i j) = 1#1 then x (ix2 i j) else Ideal.ofBits .f32 0x00000000#32) = ((if p i j then f i j else 0 : ℝ) : EReal)
  by_cases hp : p i j
  · rw [if_pos ((hc i j).mpr hp), if_pos hp, h i j]
  · rw [if_neg (fun hh => hp ((hc i j).mp hh)), if_neg hp, Ideal.ofBits_zero_f32, EReal.coe_zero]

theorem row_ge_col (i j : Fin 64) : cmpi .sge Stage.row Stage.col (ix2 i j) = 1#1 ↔ j.val ≤ i.val := by
  show IntOp.cmpi .sge (iota .tc S64x64 32 [0] _ _) (iota .tc S64x64 32 [1] _ _) = 1#1 ↔ _
  rw [iota_word, iota_word]; exact word_sge (by have := i.isLt; show i.val < _; omega) (by have := j.isLt; show j.val < _; omega)

theorem row_gt_col (i j : Fin 64) : cmpi .sgt Stage.row Stage.col (ix2 i j) = 1#1 ↔ j.val < i.val := by
  show IntOp.cmpi .sgt (iota .tc S64x64 32 [0] _ _) (iota .tc S64x64 32 [1] _ _) = 1#1 ↔ _
  rw [iota_word, iota_word]; exact word_sgt (by have := i.isLt; show i.val < _; omega) (by have := j.isLt; show j.val < _; omega)

include hq hk hw in
theorem reals_qw : Reals (Stage.qw q k w) (cqw Q W) :=
  (Reals.keep ((reals_dots hq hk hw).slice _) (p := fun i j => j ≤ i) row_ge_col).congr fun i hi j hj => by simp [above, hi, hj, cqw]

include hq hk hw in
theorem reals_wk : Reals (Stage.wk q k w) (cwk K W) :=
  (Reals.keep ((reals_dots hq hk hw).slice _) (p := fun i j => j < i) row_gt_col).congr fun i hi j hj => by simp [above, cwk]

theorem reals_none64 : Reals Stage.none64 fun _ _ => 0 := Reals.zero _ ofBits_zero_bf16

include hw hb in
theorem reals_solve {v : FVec Ideal S64x64 .f32} (hv : Reals v (cwk K W)) :
    Reals (Stage.solve (Stage.inverse b) v (Stage.wb w)) fun i j =>
      ∑ s ∈ Finset.range 64, B i s * beside 64 (cwk K W) (beside 64 (fun _ _ => 0) W) s j :=
  (Reals.matmul (Reals.cat1_4 hb.part1 hb.part2 hb.part3 hb.part1 _)
    (Reals.cat0_4 (Reals.cat1_3 hv.part1 hv.part2 (hw.extf _) _) (Reals.cat1_3 hv.part1 hv.part2 (hw.extf _) _)
      (Reals.cat1_3 hv.part1 reals_none64 (hw.extf _) _) (Reals.cat1_3 hv.part3 reals_none64 (Reals.zero _ ofBits_zero_bf16) _) _)).congr
    fun i _ j _ => sum_four (n := 0) (m := 0) (N := 0) _ _ _ _ _ _ _ _ i j (fun _ => zero_mul _) (fun _ => zero_mul _)
      (fun k => by simp [beside])

include hw hb in
theorem reals_solved {v : FVec Ideal S64x64 .f32} (hv : Reals v (cwk K W)) :
    Reals (Stage.solved (Stage.inverse b) v (Stage.wb w)) (beside 64 (cxk K W B) (cxw W B)) :=
  (Reals.cat1_2 (((reals_solve hw hb hv).slice _).addf ((reals_solve hw hb hv).slice _)) ((reals_solve hw hb hv).slice _) _).congr
    fun i _ j _ => by
      by_cases hj : j < 64
      · simp [beside, hj, cxk]
      · simp [beside, hj, cxw, show ¬ 128 + (j - 64) < 64 by omega, show ¬ 128 + (j - 64) - 64 < 64 by omega, show 128 + (j - 64) - 64 - 64 = j - 64 by omega]

include hq hk hw hb in
theorem reals_parts : Reals (Stage.parts q k w b) fun i j => ∑ s ∈ Finset.range 256,
    above 64 (beside 64 (cqw Q W) (beside 64 (cqw Q W) (beside 64 (cqw Q W) fun _ _ => 0)))
      (above 64 (beside 64 (fun _ _ => 0) (beside 64 (fun _ _ => 0) (beside 64 (fun _ _ => 0) fun _ _ => 0)))
        (beside 64 (fun e r => W r e) (beside 64 (fun e r => W r e) (beside 64 (fun e r => W r e) fun _ _ => 0)))) i s *
    above 64 (beside 64 (cxk K W B) (cxw W B)) (above 64 (fun _ _ => 0) (above 64 (fun _ _ => 0) (beside 64 (cxk K W B) (cxw W B)))) s j :=
  Reals.matmul
    (Reals.cat0_3
      (Reals.cat1_4 (reals_qw hq hk hw).part1 (reals_qw hq hk hw).part1 (reals_qw hq hk hw).part1 (reals_qw hq hk hw).part2 _)
      (Reals.cat1_4 (reals_qw hq hk hw).part3 (reals_qw hq hk hw).part2 reals_none64 reals_none64 _)
      (Reals.cat1_4 (Reals.transpose (hw.extf _) _) (Reals.transpose (hw.extf _) _) (Reals.transpose (hw.extf _) _)
        (Reals.zero _ ofBits_zero_bf16) _) _)
    (Reals.cat0_4 (reals_solved hw hb (reals_wk hq hk hw)).part1 (reals_solved hw hb (reals_wk hq hk hw)).part2
      (reals_solved hw hb (reals_wk hq hk hw)).part3 (reals_solved hw hb (reals_wk hq hk hw)).part1 _)

include hq hk hw hb in
theorem reals_qpart : Reals (Stage.qpart q k w b) fun t j =>
    ∑ r ∈ Finset.range 64, cqw Q W t r * beside 64 (cxk K W B) (cxw W B) r j :=
  (((reals_parts hq hk hw hb).slice _).addf ((reals_parts hq hk hw hb).slice _)).congr fun i hi j _ => by
    simp only [above, Nat.zero_add, hi, if_true, show ¬ 64 + i < 64 by omega, if_false, Nat.add_sub_cancel_left]
    rw [← Finset.sum_add_distrib]
    refine Eq.trans (Finset.sum_congr rfl fun k _ => ?_)
      (sum_four (n := 0) (m := 0) (N := 0) (cqw Q W) (cqw Q W) (cqw Q W) (fun _ _ => 0) (beside 64 (cxk K W B) (cxw W B)) (fun _ _ => 0)
        (fun _ _ => 0) (beside 64 (cxk K W B) (cxw W B)) i j (fun _ => mul_zero _) (fun _ => mul_zero _) (fun _ => zero_mul _))
    simp [beside, above]

include hq hk hw hb in
theorem reals_wpart : Reals (Stage.wpart q k w b) fun e j =>
    ∑ r ∈ Finset.range 64, W r e * beside 64 (cxk K W B) (cxw W B) r j :=
  ((reals_parts hq hk hw hb).slice _).congr fun i hi j _ => by
    simp only [above, show ¬ 128 + i < 64 by omega, show ¬ 128 + i - 64 < 64 by omega, show 128 + i - 64 - 64 = i by omega, if_false,
      Nat.zero_add]
    exact sum_four (n := 0) (m := 0) (N := 0) (fun e r => W r e) (fun e r => W r e) (fun e r => W r e) (fun _ _ => 0)
      (beside 64 (cxk K W B) (cxw W B)) (fun _ _ => 0) (fun _ _ => 0) (beside 64 (cxk K W B) (cxw W B)) i j (fun _ => mul_zero _)
      (fun _ => mul_zero _) (fun _ => zero_mul _)

variable {qs : FVec Ideal S64x1 .f32} {ks : FVec Ideal S1x64 .f32} {QS KS : ℕ → ℝ}
  (hqs : Reals qs fun t _ => QS t) (hks : Reals ks fun _ j => KS j)

/-- The scale the kernel multiplies its scores with: `1 / √96`, in base two. -/
def scale2 : ℝ := (Real.sqrt 96)⁻¹ * (Real.log 2)⁻¹

theorem scale2_word : (Named.named (F := Ideal) (φ := .f32) Cert.KernelIdeal.κ "scale_log2e" 0x3E16C740#32 : EReal) = (scale2 : EReal) := by
  exact IdealRules.named_const.ideal_named_scalar _ _ _ _ rfl

include hq hk hw hb hqs hks in
theorem reals_sdiag : Reals (Stage.sdiag q k w b qs ks) fun t j =>
    ((∑ e ∈ Finset.range 96, Q t e * K j e) - ∑ r ∈ Finset.range 64, cqw Q W t r * cxk K W B r j) * (QS t * scale2) * KS j :=
  (Reals.mulf (Reals.mulf ((reals_qk hq hk hw).subf ((reals_qpart hq hk hw hb).slice _))
    (Reads.cols (Reals.mulf hqs (g := fun _ _ => scale2) fun _ _ => scale2_word) _)) (Reads.rows hks _)).congr fun t _ j hj => by
      simp [beside, hj]

include hq hk hw hb hqs in
theorem reals_qhat : Reals (Stage.qhat q k w b qs) fun t e =>
    (Q t e - ∑ r ∈ Finset.range 64, cqw Q W t r * cxw W B r e) * QS t :=
  (Reals.truncf (Reals.mulf ((hq.extf _).subf ((reals_qpart hq hk hw hb).slice _)) (Reads.cols hqs _)) _).congr fun t _ j hj => by
      simp [beside]

include hq hk hw hb hks in
theorem reals_khat : Reals (Stage.khat q k w b ks) fun e j =>
    (K j e - ∑ r ∈ Finset.range 64, W r e * cxk K W B r j) * KS j :=
  (Reals.mulf ((Reals.transpose (hk.extf _) _).subf ((reals_wpart hq hk hw hb).slice _)) (Reads.rows hks _)).congr fun t _ j hj => by
      simp [beside, hj]

theorem reals_eye : Reals Stage.eye fun i j => if i = j then 1 else 0 := fun i j => by
  show ((((IntOp.cmpi .eq (iota .tc S96x96 32 [0] _ (ix2 i j)) (iota .tc S96x96 32 [1] _ (ix2 i j))).setWidth 32).toInt : ℝ) : EReal) = _
  rw [iota_word, iota_word]
  show ((((IntOp.cmpi .eq (BitVec.ofNat 32 i.val) (BitVec.ofNat 32 j.val)).setWidth 32).toInt : ℝ) : EReal) = _
  rw [WordCmp.cmpi_eq_eq]
  by_cases h : i.val = j.val
  · simp [h]
  · have : BitVec.ofNat 32 i.val ≠ BitVec.ofNat 32 j.val := fun e => h (by
      have := congrArg BitVec.toNat e
      simp only [BitVec.toNat_ofNat] at this
      omega)
    simp [h, this]

include hq hk hw hb in
theorem reals_refl : Reals (Stage.refl q k w b) fun e e' =>
    (if e = e' then 1 else 0) - ∑ r ∈ Finset.range 64, W r e * cxw W B r e' :=
  (reals_eye.subf ((reals_wpart hq hk hw hb).slice _)).congr fun t _ j hj => by simp [beside]

end

/-! ### A span of keys -/

section
variable {L : ℕ} {p : FVec Ideal S96x96 .f32} {qh : FVec Ideal S64x96 .bf16} {y1 y2 y3 : FVec Ideal ⟨2, ![96, L]⟩ .bf16}
  {P QH Y : ℕ → ℕ → ℝ} (hp : Reals p P) (hqh : Reals qh QH) (h1 : Reals y1 Y) (h2 : Reals y2 fun _ _ => 0) (h3 : Reals y3 fun _ _ => 0)

include hp hqh h1 h2 in
theorem reals_big : Reals (Stage.big p qh y1 y2) fun i j => ∑ e ∈ Finset.range 96,
    above 96 P (above 96 (fun _ _ => 0) QH) i e * Y e j :=
  (Reals.matmul (Reals.cat0_3 (Reals.cat1_2 hp.part1 hp.part1 _) (Reals.cat1_2 hp.part2 hp.part2 _)
    (Reals.cat1_2 hqh (Reals.zero _ ofBits_zero_bf16) _) _) (h1.cat0_2 h2 _)).congr fun i _ j _ => by
      have e : ∀ f : ℕ → ℕ → ℝ, ∀ i, ∑ k ∈ Finset.range 192, f i k * above 96 Y (fun _ _ => 0) k j = ∑ k ∈ Finset.range 96, f i k * Y k j := by
        intro f i
        rw [show 192 = 96 + 96 from rfl, sum_parts]
        refine (congrArg₂ (· + ·) (Finset.sum_congr rfl fun k hk => ?_) (Finset.sum_eq_zero fun k _ => ?_)).trans (add_zero _)
        · simp [above, Finset.mem_range.mp hk]
        · simp [above]
      rw [e]
      refine Finset.sum_congr rfl fun k hk => ?_
      have hk := Finset.mem_range.mp hk
      simp only [above, beside, hk, if_true]

include hp hqh h1 h2 h3 in
theorem reals_reflected : Reals (Stage.reflected p qh y1 y2 y3) fun e j => ∑ e' ∈ Finset.range 96, P e e' * Y e' j :=
  ((((reals_big hp hqh h1 h2).slice _).addf ((reals_big hp hqh h1 h2).slice _)).addf
    (Reals.matmul (Reals.cat1_2 hp.part3 hp.part1 _) (h1.cat0_2 h3 _))).congr fun e he j _ => by
      rw [sum_beside_above (show 192 = 96 + 96 from rfl)]
      simp [above, he]

include hp hqh h1 h2 in
theorem reals_against : Reals (Stage.against p qh y1 y2) fun t j => ∑ e ∈ Finset.range 96, QH t e * Y e j :=
  ((reals_big hp hqh h1 h2).slice _).congr fun t _ j _ => by
    simp [above, show ¬ 192 + t < 96 by omega, show ¬ 192 + t - 96 < 96 by omega, show 192 + t - 96 - 96 = t by omega]

include hqh h1 in
theorem reals_againstLast : Reals (Stage.againstLast qh y1) fun t j => ∑ e ∈ Finset.range 96, QH t e * Y e j :=
  Reals.matmul hqh h1

end

end Cert.Path
-- ==== Proof.Head.lean ====
/- The mathematics of one head, in the reals: the keys as the chunks reflect them, the scores of every chunk's queries, and
   the same numbers as the kernel computes them. -/
module

public import proofs.«01_k».proof.Proof.Chunk

@[expose] public section

noncomputable section

namespace Cert.Path

open scoped BigOperators

/-- One head: queries, keys and reflection vectors by token and coordinate, the scales of queries and keys by token, the
    chunk inverses by chunk, row and column. -/
structure Head where
  q : ℕ → ℕ → ℝ
  k : ℕ → ℕ → ℝ
  w : ℕ → ℕ → ℝ
  qs : ℕ → ℝ
  ks : ℕ → ℝ
  B : ℕ → ℕ → ℕ → ℝ

namespace Head

variable (H : Head)

/-- Chunk `n`'s reflection vectors against the keys `Y` before their own token. -/
def against (n : ℕ) (Y : ℕ → ℕ → ℝ) (s j : ℕ) : ℝ :=
  if j < 64 * n + s then ∑ e ∈ Finset.range 96, H.w (64 * n + s) e * Y j e else 0

/-- The keys `Y`, reflected by chunk `n`. -/
def step (n : ℕ) (Y : ℕ → ℕ → ℝ) (j e : ℕ) : ℝ :=
  Y j e - ∑ t ∈ Finset.range 64, (∑ s ∈ Finset.range 64, H.B n t s * H.against n Y s j) * H.w (64 * n + t) e

/-- The keys after the first `n` chunks. -/
def keys : ℕ → ℕ → ℕ → ℝ
  | 0 => fun j e => H.k j e * H.ks j
  | n + 1 => H.step n (keys n)

/-- Chunk `n`'s scaled queries against its reflection vectors up to their own. -/
def qw (n t s : ℕ) : ℝ :=
  if s ≤ t then (∑ e ∈ Finset.range 96, H.q (64 * n + t) e * H.w (64 * n + s) e) * H.qs (64 * n + t) else 0

def qa (n t s : ℕ) : ℝ := ∑ r ∈ Finset.range 64, H.qw n t r * H.B n r s

/-- Chunk `n`'s queries, reflected back to the chunk's first token. -/
def qhat (n t e : ℕ) : ℝ :=
  H.q (64 * n + t) e * H.qs (64 * n + t) - ∑ s ∈ Finset.range 64, H.qa n t s * H.w (64 * n + s) e

/-- The score of chunk `n`'s query `t` and the key `j` of an earlier chunk. -/
def past (n t j : ℕ) : ℝ := ∑ e ∈ Finset.range 96, H.qhat n t e * H.keys n j e

/-- The score of chunk `n`'s query `t` and the key `j` of the same chunk. -/
def own (n t j : ℕ) : ℝ :=
  (∑ e ∈ Finset.range 96, H.q (64 * n + t) e * H.k j e) * H.qs (64 * n + t) * H.ks j
    - ∑ s ∈ Finset.range 64, H.qa n t s * H.against n (H.keys n) s j

/-- The score of chunk `n`'s query `t` and the key `j`. -/
def score (n t j : ℕ) : ℝ := if j < 64 * n then H.past n t j else H.own n t j

/-! ### The chunk's blocks -/

def Q (n t e : ℕ) : ℝ := H.q (64 * n + t) e
def K (n t e : ℕ) : ℝ := H.k (64 * n + t) e
def W (n t e : ℕ) : ℝ := H.w (64 * n + t) e

/-- A key is reflected by no chunk before its own. -/
theorem keys_late (n j e : ℕ) (h : 64 * n ≤ j) : H.keys n j e = H.k j e * H.ks j := by
  induction n with
  | zero => rfl
  | succ n ih =>
    show H.keys n j e - _ = _
    rw [ih (by omega), Finset.sum_eq_zero, sub_zero]
    intro t ht
    rw [Finset.sum_eq_zero, zero_mul]
    intro s hs
    have := Finset.mem_range.mp hs
    rw [against, if_neg (by omega), mul_zero]

theorem sum_assoc (a b c : ℕ → ℝ) (B : ℕ → ℕ → ℝ) (s t : Finset ℕ) :
    ∑ j ∈ t, (∑ r ∈ s, a r * B r j) * c j = ∑ r ∈ s, a r * ∑ j ∈ t, B r j * c j := by
  simp only [Finset.sum_mul, Finset.mul_sum]
  rw [Finset.sum_comm]
  exact Finset.sum_congr rfl fun _ _ => Finset.sum_congr rfl fun _ _ => mul_assoc _ _ _

theorem qw_eq (n t s : ℕ) : H.qw n t s = cqw (H.Q n) (H.W n) t s * H.qs (64 * n + t) := by
  unfold qw cqw Q W; rw [ite_mul, zero_mul]

theorem qhat_eq (n t e : ℕ) :
    (H.Q n t e - ∑ r ∈ Finset.range 64, cqw (H.Q n) (H.W n) t r * cxw (H.W n) (H.B n) r e) * H.qs (64 * n + t) = H.qhat n t e := by
  unfold qhat qa
  rw [sum_assoc (fun r => H.qw n t r) (fun r => H.qw n t r), sub_mul, Finset.sum_mul]
  refine congrArg₂ (· - ·) rfl (Finset.sum_congr rfl fun r _ => ?_)
  rw [qw_eq, cxw]; unfold W; ring

theorem against_own (n s j : ℕ) :
    H.against n (H.keys n) s (64 * n + j) = cwk (H.K n) (H.W n) s j * H.ks (64 * n + j) := by
  unfold against cwk
  by_cases h : j < s
  · rw [if_pos h, if_pos (by omega), Finset.sum_mul]
    refine Finset.sum_congr rfl fun e _ => ?_
    rw [H.keys_late n _ e (by omega), ← mul_assoc]; rfl
  · rw [if_neg h, if_neg (by omega), zero_mul]

theorem own_eq (n t j : ℕ) :
    ((∑ e ∈ Finset.range 96, H.Q n t e * H.K n j e)
      - ∑ r ∈ Finset.range 64, cqw (H.Q n) (H.W n) t r * cxk (H.K n) (H.W n) (H.B n) r j) * H.qs (64 * n + t) * H.ks (64 * n + j)
      = H.own n t (64 * n + j) := by
  unfold own qa
  rw [sum_assoc (fun r => H.qw n t r) (fun r => H.qw n t r), sub_mul, sub_mul]
  refine congrArg₂ (· - ·) rfl ?_
  rw [Finset.sum_mul, Finset.sum_mul]
  refine Finset.sum_congr rfl fun r _ => ?_
  rw [qw_eq, cxk, Finset.mul_sum, Finset.mul_sum, Finset.sum_mul, Finset.sum_mul]
  refine Finset.sum_congr rfl fun s _ => ?_
  rw [against_own]; ring

theorem khat_eq (n e j : ℕ) :
    (H.K n j e - ∑ r ∈ Finset.range 64, H.W n r e * cxk (H.K n) (H.W n) (H.B n) r j) * H.ks (64 * n + j)
      = H.keys (n + 1) (64 * n + j) e := by
  show _ = H.keys n (64 * n + j) e - _
  rw [H.keys_late n _ e (by omega), sub_mul, Finset.sum_mul]
  refine congrArg₂ (· - ·) rfl (Finset.sum_congr rfl fun r _ => ?_)
  rw [cxk, Finset.mul_sum, Finset.sum_mul, Finset.sum_mul]
  refine Finset.sum_congr rfl fun s _ => ?_
  rw [against_own]; unfold W; ring

theorem refl_eq (n j e : ℕ) (hj : j < 64 * n) (he : e < 96) :
    (∑ e' ∈ Finset.range 96, ((if e = e' then 1 else 0) - ∑ r ∈ Finset.range 64, H.W n r e * cxw (H.W n) (H.B n) r e') * H.keys n j e')
      = H.keys (n + 1) j e := by
  show _ = H.keys n j e - _
  simp only [sub_mul, Finset.sum_sub_distrib]
  refine congrArg₂ (· - ·) ?_ ?_
  · simp [he]
  · simp only [Finset.sum_mul, cxw, Finset.mul_sum]
    rw [Finset.sum_comm]
    refine Finset.sum_congr rfl fun r _ => ?_
    rw [Finset.sum_comm]
    refine Finset.sum_congr rfl fun s _ => ?_
    rw [against, if_pos (by omega), Finset.mul_sum, Finset.sum_mul]
    refine Finset.sum_congr rfl fun e' _ => ?_
    unfold W; ring

end Head

end Cert.Path
-- ==== Proof.Soft.lean ====
/- The softmax of one chunk, read entry by entry: row maxima, weights, their sums and the weighted sums of values, over
   the extended reals; and the equation between the softmax taken in base two and the one taken in base `e`. -/
module

public import proofs.«01_k».proof.Proof.Chunk
public import Idealize.ShloMosaic.PureOps.Ideal.Laws

@[expose] public section

set_option maxRecDepth 16384

noncomputable section

open scoped BigOperators

namespace Cert.Path

open Idealize.ShloMosaic Cert.KernelIdeal Cert.KernelIdeal.Facts₀ Cert.KernelIdeal.Facts

/-! ### The operations -/

section
variable {M N K : ℕ} {φ ψ : FTy}

/-- A matrix product of extended reals, from the zero accumulator. -/
theorem Reads.matmul {v : FVec Ideal ⟨2, ![M, K]⟩ φ} {w : FVec Ideal ⟨2, ![K, N]⟩ ψ} {f g : ℕ → ℕ → EReal}
    (h : Reads v f) (h' : Reads w g) :
    Reads (matmul (DotDims.plain M K N) none v w (constant (⟨2, ![M, N]⟩ : Shape) .f32 0x00000000#32))
      fun i j => ∑ k ∈ Finset.range K, f i k * g k j := fun i j => by
  show _ = ∑ k ∈ Finset.range K, _
  rw [Finset.sum_range]
  refine (Ideal.matmul_plain_apply none v w _ i j).trans ?_
  refine (congrArg₂ (· + ·) (show _ = (0 : EReal) from Ideal.ofBits_zero_f32) (Finset.sum_congr rfl fun k _ => ?_)).trans (zero_add _)
  exact congrArg₂ (· * ·) (h i k) (h' k j)

/-- A vector as a column. -/
theorem column {x : FVec Ideal ⟨1, ![M]⟩ φ} (hc : (⟨1, ![M]⟩ : Shape).ShapeCasts ⟨2, ![M, 1]⟩) (i : Fin M) (j : Fin 1) :
    shapeCast ⟨2, ![M, 1]⟩ x hc (ix2 i j) = x (ix1 i) := by
  refine congrArg x (Shape.reshapeEquiv_eq_of_rowMajor _ ?_)
  rw [rowMajor_val1, rowMajor_val2 _ 1 rfl]
  have := j.isLt
  show i.val = i.val * 1 + j.val
  omega

/-- The row sums. -/
theorem Reads.sums {v : FVec Ideal ⟨2, ![M, N]⟩ .f32} {f : ℕ → ℕ → EReal} (h : Reads v f) (hr : (⟨2, ![M, N]⟩ : Shape).Reduces [1] ⟨1, ![M]⟩)
    (hφ : FKind.Formats .f32) (ha : 0x00000000#32 = FKind.add.neutral .f32 hφ) (i : Fin M) :
    multiReduction .add [1] ⟨1, ![M]⟩ v 0x00000000#32 hr hφ ha (ix1 i) = ∑ k ∈ Finset.range N, f i k := by
  rw [Finset.sum_range]
  refine (Ideal.multiReduction_add_single v _ hr hφ ha (ix1 i)).trans (Finset.sum_congr rfl fun k _ => ?_)
  refine Eq.trans (congrArg v ?_) (h i k)
  funext d; match d with | ⟨0, _⟩ => rfl | ⟨1, _⟩ => rfl

theorem neg_inf_f32 : Ideal.ofBits .f32 0xFF800000#32 = ⊥ := by
  simp [Ideal.ofBits, Ideal.ieee]

/-- A maximum over all columns, started at minus infinity. -/
theorem fold_range {N : ℕ} (f : ℕ → EReal) :
    Finset.fold max (FloatOps.ofBits (F := Ideal) .f32 0xFF800000#32) (fun k : Fin N => f k) Finset.univ = (Finset.range N).sup f := by
  refine (congrArg (fun b => Finset.fold max b (fun k : Fin N => f k) Finset.univ) neg_inf_f32).trans ?_
  show Finset.univ.sup (fun k : Fin N => f k) = _
  apply le_antisymm
  · exact Finset.sup_le fun k _ => Finset.le_sup (f := f) (Finset.mem_range.mpr k.isLt)
  · exact Finset.sup_le fun k hk => Finset.le_sup (f := fun k : Fin N => f k) (Finset.mem_univ ⟨k, Finset.mem_range.mp hk⟩)

/-- The row maxima. -/
theorem Reads.maxima {v : FVec Ideal ⟨2, ![M, N]⟩ .f32} {f : ℕ → ℕ → EReal} (h : Reads v f) (hr : (⟨2, ![M, N]⟩ : Shape).Reduces [1] ⟨1, ![M]⟩)
    (hφ : FKind.Formats .f32) (ha : 0xFF800000#32 = FKind.maximumf.neutral .f32 hφ) (i : Fin M) :
    multiReduction .maximumf [1] ⟨1, ![M]⟩ v 0xFF800000#32 hr hφ ha (ix1 i) = (Finset.range N).sup (f i) := by
  refine (Ideal.multiReduction_maximumf_single v _ hr hφ ha (ix1 i)).trans ?_
  have e : (v ∘ hr.lift (ix1 i)) = fun k : Fin N => f i k := funext fun k => by
    refine Eq.trans (congrArg v ?_) (h i k)
    funext d; match d with | ⟨0, _⟩ => rfl | ⟨1, _⟩ => rfl
  rw [e]
  exact fold_range _

end

section
variable {L : ℕ} {s : FVec Ideal ⟨2, ![64, L]⟩ .f32} {m l : FVec Ideal S64x1 .f32} {acc : FVec Ideal S64x96 .f32}
  {v : FVec Ideal ⟨2, ![L, 96]⟩ .bf16} {x : ℕ → ℕ → EReal} {mx tl : ℕ → EReal} {vv ac : ℕ → ℕ → EReal}
  (hs : Reads s x) (hm : Reads m fun i _ => mx i) (hl : Reads l fun i _ => tl i) (ha : Reads acc ac) (hv : Reads v vv)

include hs in
theorem reads_top : Reads (Stage.top s) fun i _ => (Finset.range L).sup (x i) := fun i j =>
  (column _ i j).trans (hs.maxima _ _ _ i)

include hs hm in
theorem reads_weights : Reads (Stage.weights s m) fun i j => Ideal.exp2 (x i j - mx i) := fun i j =>
  congrArg Ideal.exp2 (congrArg₂ (· - ·) (hs i j) (hm.cols _ i j))

include hs hm hl in
theorem reads_total : Reads (Stage.total s m l) fun i _ => tl i + ∑ k ∈ Finset.range L, Ideal.exp2 (x i k - mx i) := fun i j =>
  congrArg₂ (· + ·) (hl i j) ((column _ i j).trans ((reads_weights hs hm).sums _ _ _ i))

include hs hm ha hv in
theorem reads_weighted : Reads (Stage.weighted s m acc v) fun i e =>
    ac i e + ∑ k ∈ Finset.range L, Ideal.exp2 (x i k - mx i) * vv k e := fun i e =>
  congrArg₂ (· + ·) (ha i e) (Reads.matmul (φ := .bf16) (v := truncf .bf16 (Stage.weights s m) bitsLt_bf16_f32)
    (f := fun i j => Ideal.exp2 (x i j - mx i)) (fun i j => reads_weights hs hm i j) hv i e)

theorem reads_noTotal : Reads Stage.noTotal fun _ _ => 0 := fun _ _ => Ideal.ofBits_zero_f32
theorem reads_noValue : Reads Stage.noValue fun _ _ => 0 := fun _ _ => Ideal.ofBits_zero_f32

include hl ha in
theorem reads_mean (u : Fin 1) (i : Fin 64) (e : Fin 96) : Stage.mean l acc (ix3 u i e) = Ideal.div (ac i e) (tl i) := by
  refine Eq.trans (b := divf acc (broadcastTo S64x96 l broadcasts_S64x1_S64x96) (ix2 i e)) ?_
    (congrArg₂ Ideal.div (ha i e) (Reads.cols hl _ i e))
  refine congrArg (divf acc (broadcastTo S64x96 l broadcasts_S64x1_S64x96)) (Shape.reshapeEquiv_eq_of_rowMajor _ ?_)
  rw [rowMajor_val2 _ 96 rfl, rowMajor_val3 _ (64 * 96) 96 rfl rfl]
  have := u.isLt
  show i.val * 96 + e.val = u.val * (64 * 96) + i.val * 96 + e.val
  omega

end

/-! ### The equation between the two softmaxes -/

/-- The scores `s` times `c`, hidden ones at minus infinity. -/
def shown (vis : ℕ → Prop) [DecidablePred vis] (s : ℕ → ℝ) (c : ℝ) (j : ℕ) : EReal := if vis j then ((s j * c : ℝ) : EReal) else ⊥

section
variable (vis : ℕ → Prop) [DecidablePred vis] (s : ℕ → ℝ)

/-- The largest shown score is a real score. -/
theorem sup_shown {c : ℝ} (hc : 0 < c) (A : Finset ℕ) {jm : ℕ} (hA : jm ∈ A) (hv : vis jm) (hm : ∀ j ∈ A, vis j → s j ≤ s jm) :
    A.sup (shown vis s c) = ((s jm * c : ℝ) : EReal) := by
  apply le_antisymm
  · refine Finset.sup_le fun j hj => ?_
    unfold shown
    by_cases h : vis j
    · rw [if_pos h]; exact EReal.coe_le_coe_iff.mpr (mul_le_mul_of_nonneg_right (hm j hj h) hc.le)
    · rw [if_neg h]; exact bot_le
  · refine le_trans (le_of_eq ?_) (Finset.le_sup hA)
    rw [shown, if_pos hv]

theorem scale2_pos : 0 < scale2 := mul_pos (inv_pos.mpr (Real.sqrt_pos.mpr (by norm_num))) (inv_pos.mpr (Real.log_pos (by norm_num)))

/-- The scale of the reference. -/
def scale : ℝ := (Real.sqrt 96)⁻¹

theorem scale_pos : 0 < scale := inv_pos.mpr (Real.sqrt_pos.mpr (by norm_num))

theorem exp_base (a b : ℝ) : Ideal.exp2 (((a * scale2 : ℝ) : EReal) - ((b * scale2 : ℝ) : EReal))
    = Ideal.exp (((a * scale : ℝ) : EReal) - ((b * scale : ℝ) : EReal)) := by
  rw [← EReal.coe_sub, ← EReal.coe_sub, Ideal.exp2_coe, Ideal.exp_coe]
  refine congrArg Real.toEReal ?_
  have h2 : Real.log 2 ≠ 0 := (Real.log_pos (by norm_num)).ne'
  show (2 : ℝ) ^ (a * scale2 - b * scale2) = _
  rw [Real.rpow_def_of_pos (by norm_num)]
  congr 1
  unfold scale2 scale
  field_simp

variable {N : ℕ} (hN : N ≤ 896) (hvis : ∀ j, vis j → j < N) (hex : ∃ j, vis j)

include hN hvis hex in
/-- The weights over the first `N` keys in base two are the weights over all keys in base `e`, and these are zero beyond. -/
theorem weights_eq :
    (∀ j < N, Ideal.exp2 (shown vis s scale2 j - (Finset.range N).sup (shown vis s scale2))
        = Ideal.exp (shown vis s scale j - (Finset.range 896).sup (shown vis s scale)))
      ∧ ∀ j, N ≤ j → Ideal.exp (shown vis s scale j - (Finset.range 896).sup (shown vis s scale)) = 0 := by
  obtain ⟨j0, h0⟩ := hex
  obtain ⟨jm, hjm, hmax⟩ := Finset.exists_max_image ((Finset.range N).filter vis) s
    ⟨j0, Finset.mem_filter.mpr ⟨Finset.mem_range.mpr (hvis j0 h0), h0⟩⟩
  have hm := Finset.mem_filter.mp hjm
  have hb : ∀ j, vis j → s j ≤ s jm := fun j hj => hmax j (Finset.mem_filter.mpr ⟨Finset.mem_range.mpr (hvis j hj), hj⟩)
  rw [sup_shown vis s scale2_pos _ hm.1 hm.2 fun j _ hj => hb j hj,
    sup_shown vis s scale_pos (Finset.range 896) (Finset.mem_range.mpr (lt_of_lt_of_le (hvis jm hm.2) hN)) hm.2 fun j _ hj => hb j hj]
  have hid : ∀ r : ℝ, (⊥ : EReal) - (r : EReal) = ⊥ := fun r => by rw [sub_eq_add_neg]; exact EReal.bot_add _
  constructor
  · intro j _
    unfold shown
    by_cases h : vis j
    · rw [if_pos h, if_pos h]; exact exp_base _ _
    · rw [if_neg h, if_neg h, hid, hid]; rfl
  · intro j hj
    unfold shown
    rw [if_neg (fun h => absurd (hvis j h) (by omega)), hid]; rfl

include hN hvis hex in
/-- The means agree. -/
theorem mean_eq (v : ℕ → EReal) :
    Ideal.div (∑ j ∈ Finset.range N, Ideal.exp2 (shown vis s scale2 j - (Finset.range N).sup (shown vis s scale2)) * v j)
        (∑ j ∈ Finset.range N, Ideal.exp2 (shown vis s scale2 j - (Finset.range N).sup (shown vis s scale2)))
      = Ideal.div (∑ j ∈ Finset.range 896, Ideal.exp (shown vis s scale j - (Finset.range 896).sup (shown vis s scale)) * v j)
        (∑ j ∈ Finset.range 896, Ideal.exp (shown vis s scale j - (Finset.range 896).sup (shown vis s scale))) := by
  obtain ⟨e1, e0⟩ := weights_eq vis s hN hvis hex
  have hsub : Finset.range N ⊆ Finset.range 896 := Finset.range_subset_range.mpr hN
  congr 1
  · rw [← Finset.sum_subset hsub fun j _ hj => by rw [e0 j (by simpa using hj), zero_mul]]
    exact Finset.sum_congr rfl fun j hj => by rw [e1 j (Finset.mem_range.mp hj)]
  · rw [← Finset.sum_subset hsub fun j _ hj => e0 j (by simpa using hj)]
    exact Finset.sum_congr rfl fun j hj => e1 j (Finset.mem_range.mp hj)

end

end Cert.Path
-- ==== Proof.Keys.lean ====
/- What the kernel computes at one grid point of real inputs: the scratch buffers hold the head's reflected keys after every
   chunk, and every chunk's result is the softmax mean of its scores. -/
module

public import proofs.«01_k».proof.Proof.Point
public import proofs.«01_k».proof.Proof.Head
public import proofs.«01_k».proof.Proof.Soft

@[expose] public section

set_option maxRecDepth 16384

noncomputable section

open scoped BigOperators

namespace Cert.Path

open Idealize.ShloMosaic Idealize.SL.Sem Cert.KernelIdeal Cert.KernelIdeal.Facts₀ Cert.KernelIdeal.Facts

/-- The grid point's inputs are the head `H`, with segments `S` and values `V`. -/
structure Point.Holds (P : Point Ideal) (H : Head) (S : ℕ → BitVec 32) (V : ℕ → ℕ → EReal) : Prop where
  q : ∀ n (h : n < 14), Reals (P.q (64 * n) (Point.tok n h)) (H.Q n)
  k : ∀ n (h : n < 14), Reals (P.k (64 * n) (Point.tok n h)) (H.K n)
  w : ∀ n (h : n < 14), Reals (P.w (64 * n) (Point.tok n h)) (H.W n)
  b : ∀ n (h : n < 14), Reals (Stage.inverse (P.b n (Point.ch n h))) (H.B n)
  qs : ∀ n (h : n < 14), Reals (P.qs (64 * n) (Point.tok n h)) fun t _ => H.qs (64 * n + t)
  ks : ∀ n (h : n < 14), Reals (P.ks n (Point.ch' n h)) fun _ j => H.ks (64 * n + j)
  segq : ∀ n (h : n < 14) (i : Fin 64), P.segq (64 * n) (Point.tok n h) (ix2 i 0) = S (64 * n + i)
  segk : ∀ w t (h : t + w ≤ 896) (j : Fin w), P.segk w t h (ix2 0 j) = S (t + j)
  v : ∀ w t (h : t + w ≤ 896), Reads (P.v w t h) fun j e => V (t + j) e

namespace Point

/-! ### The scratch buffers -/

/-- The first `hi` keys a buffer holds after the stores are `f`. -/
def Keeps (L : Stores Ideal) (f : ℕ → ℕ → ℝ) (hi : ℕ) : Prop :=
  ∀ (e : Fin 96) (j : Fin 896), j.val < hi → View.canon (Val := Elt Ideal) (e := .bf16) L (ix2 e j) = ((f e j : ℝ) : EReal)

theorem keeps_load {L : Stores Ideal} {f : ℕ → ℕ → ℝ} {hi : ℕ} (h : Keeps L f hi) (a : Memref sig .tc .vmem S96x896 .bf16) {W t : ℕ}
    (ht : t + W ≤ 896) (hh : t + W ≤ hi) : Reals (load a L W t ht) fun e j => f e (t + j) := fun e j => by
  have hj := j.isLt
  refine (congrFun (View.readCov_eq_canon' a.view L (Rect.unit (s := S96x896) ![0, t] ![96, W] (inbY ht)).toLoadRect) (ix2 e j)).trans ?_
  refine Eq.trans (congrArg (View.canon (Val := Elt Ideal) (e := .bf16) L) ?_) (h e ⟨t + j.val, by omega⟩ (by show t + j.val < hi; omega))
  funext d
  match d with
  | ⟨0, _⟩ => exact Fin.ext (show 0 + 1 * e.val = e.val by omega)
  | ⟨1, _⟩ => exact Fin.ext (show t + 1 * j.val = t + j.val by omega)

theorem canon_store_in {L : Stores Ideal} {W t : ℕ} (ht : t + W ≤ 896) {x : FVec Ideal ⟨2, ![96, W]⟩ .bf16} {f : ℕ → ℕ → ℝ}
    (hx : Reals x f) (e : Fin 96) (j : Fin 896) (h1 : t ≤ j.val) (h2 : j.val < t + W) :
    View.canon (Val := Elt Ideal) (e := .bf16) (store W t ht x :: L) (ix2 e j) = ((f e (j - t) : ℝ) : EReal) := by
  have hc : j.val - t < W := by omega
  have ee : (ix2 e j : S96x896.Idx) = (Rect.unit (s := S96x896) ![0, t] ![96, W] (inbY ht)).emb (ix2 e ⟨j.val - t, hc⟩) := by
    funext d
    match d with
    | ⟨0, _⟩ => exact Fin.ext (show e.val = 0 + 1 * e.val by omega)
    | ⟨1, _⟩ => exact Fin.ext (show j.val = t + 1 * (j.val - t) by omega)
  rw [ee]
  refine (View.canon_cons_emb (Val := Elt Ideal) (e := .bf16) (Rect.unit (s := S96x896) ![0, t] ![96, W] (inbY ht)) (shapeCast ⟨2, ![96, W]⟩ x rfl) L (ix2 e ⟨j.val - t, hc⟩)).trans ?_
  rw [shapeCast_id]
  exact hx e ⟨j.val - t, hc⟩

theorem canon_store_out {L : Stores Ideal} {W t : ℕ} (ht : t + W ≤ 896) (x : FVec Ideal ⟨2, ![96, W]⟩ .bf16)
    (e : Fin 96) (j : Fin 896) (h : j.val < t ∨ t + W ≤ j.val) :
    View.canon (Val := Elt Ideal) (e := .bf16) (store W t ht x :: L) (ix2 e j) = View.canon (Val := Elt Ideal) (e := .bf16) L (ix2 e j) := by
  refine View.canon_cons_of_not_mem _ L fun hm => ?_
  have := (Rect.mem_set_unit (inb := inbY ht).mp hm) 1
  have h1 : t ≤ j.val := this.1
  have h2 : j.val < t + W := this.2
  omega

section
variable {P : Point Ideal} {H : Head} {S : ℕ → BitVec 32} {V : ℕ → ℕ → EReal} (A : P.Holds H S V)

include A in
theorem reals_khat' (n : ℕ) (h : n < 14) : Reals (P.khat n h) fun e j => H.keys (n + 1) (64 * n + j) e :=
  (reals_khat (A.q n h) (A.k n h) (A.w n h) (A.b n h) (A.ks n h)).congr fun e _ j _ => H.khat_eq n e j

include A in
theorem reals_qhat' (n : ℕ) (h : n < 14) : Reals (P.qhat n h) (H.qhat n) :=
  (reals_qhat (A.q n h) (A.k n h) (A.w n h) (A.b n h) (A.qs n h)).congr fun e _ j _ => H.qhat_eq n e j

include A in
theorem reals_moved (n : ℕ) (h : n < 14) {L1 L2 L3 : Stores Ideal} (k1 : Keeps L1 (fun e j => H.keys n j e) (64 * n))
    (k2 : Keeps L2 (fun _ _ => 0) (64 * n)) (k3 : Keeps L3 (fun _ _ => 0) (64 * n)) (J : ℕ) (hJ : J < 4) (hs : 256 * J < 64 * n) :
    Reals (P.moved n h L1 L2 L3 J hJ) fun e j => H.keys (n + 1) (256 * J + j) e := by
  have hw : 256 * J + width n J ≤ 64 * n := by unfold width; omega
  exact (reals_reflected (reals_refl (A.q n h) (A.k n h) (A.w n h) (A.b n h)) (reals_qhat' A n h) (keeps_load k1 P.a11 _ hw)
    (keeps_load k2 P.a12 _ hw) (keeps_load k3 P.a13 _ hw)).congr fun e he j hj => H.refl_eq n (256 * J + j) e (by omega) he

/-- What the stores of a chunk leave in a buffer: the parts of the reflected keys. -/
theorem keeps_stores (n : ℕ) (h : n < 14) {L1 L2 L3 L : Stores Ideal} {part : ∀ {s : Shape}, FVec Ideal s .f32 → FVec Ideal s .bf16}
    {g : ℕ → ℕ → ℝ} (hd : Reals (part (P.khat n h)) fun e j => g e (64 * n + j))
    (hm : ∀ J (hJ : J < 4), 256 * J < 64 * n → Reals (part (P.moved n h L1 L2 L3 J hJ)) fun e j => g e (256 * J + j)) :
    Keeps (P.stores n h L1 L2 L3 part L) g (64 * (n + 1)) := by
  have hsp : ∀ J (hJ : J ≤ 4) (e : Fin 96) (j : Fin 896), j.val < 64 * n → j.val < 256 * J →
      View.canon (Val := Elt Ideal) (e := .bf16) (P.spanStores n h L1 L2 L3 part L J hJ) (ix2 e j) = ((g e j : ℝ) : EReal) := by
    intro J
    induction J with
    | zero => intro _ e j _ h0; omega
    | succ J ih =>
      intro hJ e j h1 h2
      by_cases hj : 256 * J ≤ j.val
      · refine (canon_store_in (inSpan h hJ) (hm J hJ (by omega)) e j hj (by unfold width; omega)).trans ?_
        rw [show 256 * J + (j.val - 256 * J) = j.val by omega]
      · exact (canon_store_out (inSpan h hJ) _ e j (.inl (by omega))).trans (ih (Nat.le_of_succ_le hJ) e j h1 (by omega))
  intro e j hj
  by_cases hn : 64 * n ≤ j.val
  · refine (canon_store_in (tok n h) hd e j hn (by omega)).trans ?_
    rw [show 64 * n + (j.val - 64 * n) = j.val by omega]
  · exact (canon_store_out (tok n h) _ e j (.inl (by omega))).trans (hsp _ (spanCount h) e j (by omega) (by omega))

include A in
/-- After `n` chunks the first buffer holds the head's keys, reflected, and the two others zero. -/
theorem keeps : ∀ n (h : n ≤ 14), Keeps (P.ys n h).1 (fun e j => H.keys n j e) (64 * n) ∧ Keeps (P.ys n h).2.1 (fun _ _ => 0) (64 * n)
    ∧ Keeps (P.ys n h).2.2 (fun _ _ => 0) (64 * n) := by
  intro n
  induction n with
  | zero => intro h; exact ⟨fun e j hj => by omega, fun e j hj => by omega, fun e j hj => by omega⟩
  | succ n ih =>
    intro h
    obtain ⟨k1, k2, k3⟩ := ih (Nat.le_of_succ_le h)
    refine ⟨?_, ?_, ?_⟩
    · exact keeps_stores n h (part := Stage.part1) (g := fun e j => H.keys (n + 1) j e) (reals_khat' A n h).part1
        fun J hJ hs => (reals_moved A n h k1 k2 k3 J hJ hs).part1
    · exact keeps_stores n h (part := Stage.part2) (g := fun _ _ => 0) (reals_khat' A n h).part2
        fun J hJ hs => (reals_moved A n h k1 k2 k3 J hJ hs).part2
    · exact keeps_stores n h (part := Stage.part3) (g := fun _ _ => 0) (reals_khat' A n h).part3
        fun J hJ hs => (reals_moved A n h k1 k2 k3 J hJ hs).part3

/-! ### The scores -/

/-- The keys query `t` of chunk `n` sees: those up to its own token, of its segment. -/
def Vis (S : ℕ → BitVec 32) (T j : ℕ) : Prop := j ≤ T ∧ S T = S j

instance (S : ℕ → BitVec 32) (T : ℕ) : DecidablePred (Vis S T) := fun j => inferInstanceAs (Decidable (j ≤ T ∧ S T = S j))

/-- The kernel's scores of chunk `n`. -/
def sc (H : Head) (S : ℕ → BitVec 32) (n t j : ℕ) : EReal := shown (Vis S (64 * n + t)) (H.score n t) scale2 j

theorem pick {M N : ℕ} {c : IVec ⟨2, ![M, N]⟩ 1} {x y : FVec Ideal ⟨2, ![M, N]⟩ .f32} {i : Fin M} {j : Fin N} {p : Prop} [Decidable p] {a : EReal}
    (hc : c (ix2 i j) = 1#1 ↔ p) (hx : x (ix2 i j) = a) (hy : y (ix2 i j) = ⊥) :
    select c x y (ix2 i j) = if p then a else ⊥ := by
  show (if c (ix2 i j) = 1#1 then x (ix2 i j) else y (ix2 i j)) = _
  by_cases hp : p
  · rw [if_pos (hc.mpr hp), if_pos hp, hx]
  · rw [if_neg (fun h => hp (hc.mp h)), if_neg hp, hy]

theorem and_word {x y : BitVec 1} : IntOp.andi x y = 1#1 ↔ x = 1#1 ∧ y = 1#1 := by revert x y; decide

theorem stretch_rows {M N w : ℕ} {x : IVec ⟨2, ![M, 1]⟩ w} (hs : (⟨2, ![M, 1]⟩ : Shape).Broadcasts ⟨2, ![M, N]⟩) (hM : M ≠ 1) (i : Fin M) (j : Fin N) :
    broadcastTo ⟨2, ![M, N]⟩ x hs (ix2 i j) = x (ix2 i 0) := by
  refine congrArg x ?_
  funext d; match d with | ⟨0, _⟩ => exact dif_neg hM | ⟨1, _⟩ => rfl

theorem stretch_cols {M N w : ℕ} {x : IVec ⟨2, ![1, N]⟩ w} (hs : (⟨2, ![1, N]⟩ : Shape).Broadcasts ⟨2, ![M, N]⟩) (i : Fin M) (j : Fin N) :
    broadcastTo ⟨2, ![M, N]⟩ x hs (ix2 i j) = x (ix2 0 j) := by
  refine congrArg x ?_
  funext d
  match d with
  | ⟨0, _⟩ => rfl
  | ⟨1, _⟩ =>
    by_cases hN : N = 1
    · subst hN; exact (dif_pos rfl).trans (Subsingleton.elim (α := Fin 1) _ _)
    · exact dif_neg hN

section
variable {sq : IVec S64x1 32} {SQ SK : ℕ → BitVec 32} (hq : ∀ i : Fin 64, sq (ix2 i 0) = SQ i)

include hq in
theorem reads_own {s : FVec Ideal S64x64 .f32} {f : ℕ → ℕ → ℝ} (hs : Reals s f) {sk : IVec S1x64 32} (hk : ∀ j : Fin 64, sk (ix2 0 j) = SK j) :
    Reads (Stage.own s sq sk) fun t j => if j ≤ t ∧ SQ t = SK j then ((f t j : ℝ) : EReal) else ⊥ := fun t j => by
  refine pick ?_ (hs t j) neg_inf_f32
  show IntOp.andi _ _ = 1#1 ↔ _
  rw [and_word]
  refine and_congr (row_ge_col t j) ?_
  show IntOp.cmpi .eq (broadcastTo S64x64 _ _ (ix2 t j)) (broadcastTo S64x64 _ _ (ix2 t j)) = 1#1 ↔ _
  rw [word_eq, stretch_rows _ (by decide), stretch_cols, hq, hk]

include hq in
theorem reads_seen {W : ℕ} {s : FVec Ideal ⟨2, ![64, W]⟩ .f32} {f : ℕ → ℕ → ℝ} (hs : Reals s f) {sk : IVec ⟨2, ![1, W]⟩ 32}
    (hk : ∀ j : Fin W, sk (ix2 0 j) = SK j) :
    Reads (Stage.seen s sq sk) fun t j => if SQ t = SK j then ((f t j * scale2 : ℝ) : EReal) else ⊥ := fun t j => by
  refine pick ?_ ((Reals.mulf hs (g := fun _ _ => scale2) fun _ _ => scale2_word) t j) neg_inf_f32
  show IntOp.cmpi .eq (broadcastTo ⟨2, ![64, W]⟩ _ _ (ix2 t j)) (broadcastTo ⟨2, ![64, W]⟩ _ _ (ix2 t j)) = 1#1 ↔ _
  rw [word_eq, stretch_rows _ (by decide), stretch_cols, hq, hk]

end

include A in
theorem reads_sdiag (n : ℕ) (h : n < 14) : Reads (P.sdiag n h) fun t j => sc H S n t (64 * n + j) :=
  (reads_own (A.segq n h) (reals_sdiag (A.q n h) (A.k n h) (A.w n h) (A.b n h) (A.qs n h) (A.ks n h)) (SK := fun j => S (64 * n + j)) (SQ := fun t => S (64 * n + t))
    (A.segk 64 (64 * n) _)).congr fun t _ j _ => by
    unfold sc shown Vis
    refine if_congr (and_congr (by omega) Iff.rfl) (congrArg Real.toEReal ?_) rfl
    rw [Head.score, if_neg (by omega), ← H.own_eq]; ring

include A in
theorem reals_against' (n : ℕ) (h : n < 14) {L1 L2 : Stores Ideal} (k1 : Keeps L1 (fun e j => H.keys n j e) (64 * n))
    (k2 : Keeps L2 (fun _ _ => 0) (64 * n)) (J : ℕ) (hJ : J < 4) (hs : 256 * J < 64 * n) :
    Reals (if n < 13 then
      Stage.against (P.refl n h) (P.qhat n h) (load P.a11 L1 (width n J) (256 * J) (inSpan h hJ)) (load P.a12 L2 (width n J) (256 * J) (inSpan h hJ))
    else Stage.againstLast (P.qhat n h) (load P.a11 L1 (width n J) (256 * J) (inSpan h hJ))) fun t j => H.past n t (256 * J + j) := by
  have hw : 256 * J + width n J ≤ 64 * n := by unfold width; omega
  by_cases hn : n < 13
  · rw [if_pos hn]
    exact reals_against (reals_refl (A.q n h) (A.k n h) (A.w n h) (A.b n h)) (reals_qhat' A n h) (keeps_load k1 P.a11 _ hw) (keeps_load k2 P.a12 _ hw)
  · rw [if_neg hn]
    exact reals_againstLast (reals_qhat' A n h) (keeps_load k1 P.a11 _ hw)

include A in
theorem reads_past (n : ℕ) (h : n < 14) {L1 L2 : Stores Ideal} (k1 : Keeps L1 (fun e j => H.keys n j e) (64 * n))
    (k2 : Keeps L2 (fun _ _ => 0) (64 * n)) (J : ℕ) (hJ : J < 4) (hs : 256 * J < 64 * n) :
    Reads (P.past n h L1 L2 J hJ) fun t j => sc H S n t (256 * J + j) :=
  (reads_seen (SQ := fun t => S (64 * n + t)) (SK := fun j => S (256 * J + j)) (A.segq n h) (reals_against' A n h k1 k2 J hJ hs)
    (A.segk _ _ _)).congr fun t _ j hj => by
    have hw : 256 * J + width n J ≤ 64 * n := by unfold width; omega
    unfold sc shown Vis
    refine if_congr ⟨fun e => ⟨by omega, e⟩, fun e => e.2⟩ (congrArg Real.toEReal ?_) rfl
    rw [Head.score, if_pos (by omega)]

/-! ### The chunk's result -/

/-- A supremum over a shifted range. -/
theorem sup_shift (a W : ℕ) (x : ℕ → EReal) : (Finset.range W).sup (fun c => x (a + c)) = (Finset.Ico a (a + W)).sup x := by
  apply le_antisymm
  · exact Finset.sup_le fun c hc => Finset.le_sup (f := x) (Finset.mem_Ico.mpr ⟨by omega, by have := Finset.mem_range.mp hc; omega⟩)
  · refine Finset.sup_le fun j hj => ?_
    have := Finset.mem_Ico.mp hj
    refine le_trans (le_of_eq ?_) (Finset.le_sup (f := fun c => x (a + c)) (b := j - a) (Finset.mem_range.mpr (by omega)))
    show x j = x (a + (j - a))
    rw [show a + (j - a) = j by omega]

theorem sum_shift (a W : ℕ) (x : ℕ → EReal) : ∑ c ∈ Finset.range W, x (a + c) = ∑ j ∈ Finset.Ico a (a + W), x j := by
  rw [Finset.sum_Ico_eq_sum_range, Nat.add_sub_cancel_left]

/-- Where the first `J` spans end. -/
def edge (n J : ℕ) : ℕ := min (256 * J) (64 * n)

theorem edge_succ {n J : ℕ} (h : 256 * J < 64 * n) : 256 * J = edge n J ∧ 256 * J + width n J = edge n (J + 1) := by
  unfold edge width; omega

theorem sum_start (n : ℕ) (f : ℕ → EReal) :
    0 + ∑ c ∈ Finset.range 64, f (64 * n + c) = (∑ j ∈ Finset.Ico (64 * n) (64 * n + 64), f j) + ∑ j ∈ Finset.Ico 0 (edge n 0), f j := by
  rw [sum_shift, show edge n 0 = 0 by simp [edge]]; simp

theorem sum_grow {n J : ℕ} (h : 256 * J < 64 * n) (b : EReal) (f : ℕ → EReal) :
    (b + ∑ j ∈ Finset.Ico 0 (edge n J), f j) + ∑ c ∈ Finset.range (width n J), f (256 * J + c) = b + ∑ j ∈ Finset.Ico 0 (edge n (J + 1)), f j := by
  obtain ⟨e1, e2⟩ := edge_succ h
  rw [sum_shift, add_assoc, e2, e1]
  exact congrArg (b + ·) (Finset.sum_Ico_consecutive _ (Nat.zero_le _) (by unfold edge; omega))

theorem sum_whole {n : ℕ} (f : ℕ → EReal) : (∑ j ∈ Finset.Ico (64 * n) (64 * n + 64), f j) + ∑ j ∈ Finset.Ico 0 (edge n ((n + 3) / 4)), f j
      = ∑ j ∈ Finset.range (64 * (n + 1)), f j := by
  rw [show edge n ((n + 3) / 4) = 64 * n by unfold edge; omega, add_comm, Finset.range_eq_Ico]
  exact Finset.sum_Ico_consecutive _ (Nat.zero_le _) (by omega)

section
variable {n : ℕ} (h : n < 14) {L1 L2 : Stores Ideal} (k1 : Keeps L1 (fun e j => H.keys n j e) (64 * n)) (k2 : Keeps L2 (fun _ _ => 0) (64 * n))

include A k1 k2 in
theorem reads_tops : ∀ J (hJ : J ≤ 4), J ≤ (n + 3) / 4 → Reads (P.tops n h L1 L2 J hJ) fun t _ =>
    max ((Finset.Ico (64 * n) (64 * n + 64)).sup (sc H S n t)) ((Finset.Ico 0 (edge n J)).sup (sc H S n t)) := by
  intro J
  induction J with
  | zero =>
    intro hJ _ t c
    refine (reads_top (reads_sdiag A n h) t c).trans ?_
    show (Finset.range 64).sup (fun c => sc H S n t (64 * n + c)) = _
    rw [sup_shift, show edge n 0 = 0 by simp [edge]]
    simp
  | succ J ih =>
    intro hJ hn t c
    have hs : 256 * J < 64 * n := by omega
    obtain ⟨e1, e2⟩ := edge_succ hs
    refine (congrArg₂ max (ih (Nat.le_of_succ_le hJ) (by omega) t c) (reads_top (reads_past A n h k1 k2 J hJ hs) t c)).trans ?_
    show max (max _ _) ((Finset.range (width n J)).sup (fun c => sc H S n t (256 * J + c))) = _
    rw [sup_shift, max_assoc]
    refine congrArg (max _) ?_
    rw [e2, e1, ← Finset.Ico_union_Ico_eq_Ico (Nat.zero_le (edge n J)) (show edge n J ≤ edge n (J + 1) by unfold edge; omega), Finset.sup_union]

include A k1 k2 in
theorem reads_peak : Reads (P.peak n h L1 L2) fun t _ => (Finset.range (64 * (n + 1))).sup (sc H S n t) := fun t c => by
  refine (reads_tops A h k1 k2 _ (spanCount h) (le_refl _) t c).trans ?_
  show max ((Finset.Ico (64 * n) (64 * n + 64)).sup (sc H S n t)) ((Finset.Ico 0 (edge n ((n + 3) / 4))).sup (sc H S n t))
    = (Finset.range (64 * (n + 1))).sup (sc H S n t)
  rw [show edge n ((n + 3) / 4) = 64 * n by unfold edge; omega, max_comm, Finset.range_eq_Ico,
    ← Finset.Ico_union_Ico_eq_Ico (Nat.zero_le (64 * n)) (show 64 * n ≤ 64 * (n + 1) by omega), Finset.sup_union]
  rfl

variable {m : FVec Ideal S64x1 .f32} {mx : ℕ → EReal} (hm : Reads m fun t _ => mx t)

include A k1 k2 hm in
theorem reads_totals : ∀ J (hJ : J ≤ 4), J ≤ (n + 3) / 4 → Reads (P.totals n h L1 L2 m J hJ) fun t _ =>
    (∑ j ∈ Finset.Ico (64 * n) (64 * n + 64), Ideal.exp2 (sc H S n t j - mx t)) + ∑ j ∈ Finset.Ico 0 (edge n J), Ideal.exp2 (sc H S n t j - mx t) := by
  intro J
  induction J with
  | zero =>
    intro hJ _ t c
    exact (reads_total (reads_sdiag A n h) hm reads_noTotal t c).trans (sum_start n fun j => Ideal.exp2 (sc H S n t j - mx t))
  | succ J ih =>
    intro hJ hn t c
    exact (reads_total (reads_past A n h k1 k2 J hJ (by omega)) hm (ih (Nat.le_of_succ_le hJ) (by omega)) t c).trans
      (sum_grow (by omega) _ fun j => Ideal.exp2 (sc H S n t j - mx t))

include A k1 k2 hm in
theorem reads_sums : ∀ J (hJ : J ≤ 4), J ≤ (n + 3) / 4 → Reads (P.sums n h L1 L2 m J hJ) fun t e =>
    (∑ j ∈ Finset.Ico (64 * n) (64 * n + 64), Ideal.exp2 (sc H S n t j - mx t) * V j e)
      + ∑ j ∈ Finset.Ico 0 (edge n J), Ideal.exp2 (sc H S n t j - mx t) * V j e := by
  intro J
  induction J with
  | zero =>
    intro hJ _ t c
    exact (reads_weighted (reads_sdiag A n h) hm reads_noValue (A.v _ _ _) t c).trans
      (sum_start n fun j => Ideal.exp2 (sc H S n t j - mx t) * V j c)
  | succ J ih =>
    intro hJ hn t c
    exact (reads_weighted (reads_past A n h k1 k2 J hJ (by omega)) hm (ih (Nat.le_of_succ_le hJ) (by omega)) (A.v _ _ _) t c).trans
      (sum_grow (by omega) _ fun j => Ideal.exp2 (sc H S n t j - mx t) * V j c)

end

include A in
/-- A chunk's result: the mean of the values with the softmax of the shown scores, in base two. -/
theorem reads_result (n : ℕ) (h : n < 14) (u : Fin 1) (t : Fin 64) (e : Fin 96) :
    P.result n h (ix3 u t e) = Ideal.div
      (∑ j ∈ Finset.range (64 * (n + 1)), Ideal.exp2 (sc H S n t j - (Finset.range (64 * (n + 1))).sup (sc H S n t)) * V j e)
      (∑ j ∈ Finset.range (64 * (n + 1)), Ideal.exp2 (sc H S n t j - (Finset.range (64 * (n + 1))).sup (sc H S n t))) := by
  obtain ⟨k1, k2, -⟩ := keeps A n h.le
  have hm := reads_peak A h k1 k2
  rw [← sum_whole, ← sum_whole]
  exact reads_mean (reads_totals A h k1 k2 hm _ (spanCount h) (le_refl _)) (reads_sums A h k1 k2 hm _ (spanCount h) (le_refl _)) u t e

end

end Point

end Cert.Path
-- ==== Proof.Arrays.lean ====
/- The arguments as the heads they hold: how an array reshaped to one block per head reads the argument, and the head's
   real entries when the argument is finite. -/
module

public import proofs.«01_k».proof.Proof.Head

@[expose] public section

set_option maxRecDepth 16384

noncomputable section

namespace Cert.Path

open Idealize.ShloMosaic

/-- The batch of head `g`. -/
def batch (g : Fin 60) : Fin 2 := ⟨g.val / 30, by have := g.isLt; omega⟩
/-- The head's number inside its batch. -/
def inBatch (g : Fin 60) : Fin 30 := ⟨g.val % 30, by have := g.isLt; omega⟩

/-! ### Reshaped arrays -/

section
variable {α : Type}

theorem read_heads (x : (⟨4, ![2, 896, 30, 96]⟩ : Shape).Idx → α)
    (ht : (⟨4, ![2, 896, 30, 96]⟩ : Shape).Transposes [0, 2, 1, 3] ⟨4, ![2, 30, 896, 96]⟩)
    (hs : (⟨4, ![2, 30, 896, 96]⟩ : Shape).ShapeCasts ⟨3, ![60, 896, 96]⟩) (g : Fin 60) (T : Fin 896) (e : Fin 96) :
    shapeCast ⟨3, ![60, 896, 96]⟩ (transpose ⟨4, ![2, 30, 896, 96]⟩ [0, 2, 1, 3] x ht) hs (ix3 g T e)
      = x (ix4 (batch g) T (inBatch g) e) := by
  refine Eq.trans (b := transpose ⟨4, ![2, 30, 896, 96]⟩ [0, 2, 1, 3] x ht (ix4 (batch g) (inBatch g) T e)) ?_ (congrArg x ?_)
  · refine congrArg (transpose ⟨4, ![2, 30, 896, 96]⟩ [0, 2, 1, 3] x ht) (Shape.reshapeEquiv_eq_of_rowMajor _ ?_)
    rw [rowMajor_val3 _ (896 * 96) 96 rfl rfl, rowMajor_val4 _ (30 * (896 * 96)) (896 * 96) 96 rfl rfl rfl]
    show g.val / 30 * (30 * (896 * 96)) + g.val % 30 * (896 * 96) + T.val * 96 + e.val = g.val * (896 * 96) + T.val * 96 + e.val
    omega
  · funext d; match d with | ⟨0, _⟩ => rfl | ⟨1, _⟩ => rfl | ⟨2, _⟩ => rfl | ⟨3, _⟩ => rfl

theorem read_scales_of {s : Shape} (x : (⟨3, ![2, 896, 30]⟩ : Shape).Idx → α)
    (ht : (⟨3, ![2, 896, 30]⟩ : Shape).Transposes [0, 2, 1] ⟨3, ![2, 30, 896]⟩)
    (hs : (⟨3, ![2, 30, 896]⟩ : Shape).ShapeCasts s) (g : Fin 60) (T : Fin 896) (i : s.Idx)
    (hi : (s.rowMajor i).val = g.val * 896 + T.val) :
    shapeCast s (transpose ⟨3, ![2, 30, 896]⟩ [0, 2, 1] x ht) hs i = x (ix3 (batch g) T (inBatch g)) := by
  refine Eq.trans (b := transpose ⟨3, ![2, 30, 896]⟩ [0, 2, 1] x ht (ix3 (batch g) (inBatch g) T)) ?_ (congrArg x ?_)
  · refine congrArg (transpose ⟨3, ![2, 30, 896]⟩ [0, 2, 1] x ht) (Shape.reshapeEquiv_eq_of_rowMajor _ ?_)
    rw [hi, rowMajor_val3 _ (30 * 896) 896 rfl rfl]
    show g.val / 30 * (30 * 896) + g.val % 30 * 896 + T.val = g.val * 896 + T.val
    omega
  · funext d; match d with | ⟨0, _⟩ => rfl | ⟨1, _⟩ => rfl | ⟨2, _⟩ => rfl

theorem read_scales (x : (⟨3, ![2, 896, 30]⟩ : Shape).Idx → α)
    (ht : (⟨3, ![2, 896, 30]⟩ : Shape).Transposes [0, 2, 1] ⟨3, ![2, 30, 896]⟩)
    (hs : (⟨3, ![2, 30, 896]⟩ : Shape).ShapeCasts ⟨3, ![60, 896, 1]⟩) (g : Fin 60) (T : Fin 896) (u : Fin 1) :
    shapeCast ⟨3, ![60, 896, 1]⟩ (transpose ⟨3, ![2, 30, 896]⟩ [0, 2, 1] x ht) hs (ix3 g T u) = x (ix3 (batch g) T (inBatch g)) := by
  refine read_scales_of x ht hs g T _ ?_
  rw [rowMajor_val3 _ (896 * 1) 1 rfl rfl]
  have := u.isLt
  show g.val * (896 * 1) + T.val * 1 + u.val = g.val * 896 + T.val
  omega

theorem read_scalesRow (x : (⟨3, ![2, 896, 30]⟩ : Shape).Idx → α)
    (ht : (⟨3, ![2, 896, 30]⟩ : Shape).Transposes [0, 2, 1] ⟨3, ![2, 30, 896]⟩)
    (hs : (⟨3, ![2, 30, 896]⟩ : Shape).ShapeCasts ⟨3, ![60, 1, 896]⟩) (g : Fin 60) (u : Fin 1) (T : Fin 896) :
    shapeCast ⟨3, ![60, 1, 896]⟩ (transpose ⟨3, ![2, 30, 896]⟩ [0, 2, 1] x ht) hs (ix3 g u T) = x (ix3 (batch g) T (inBatch g)) := by
  refine read_scales_of x ht hs g T _ ?_
  rw [rowMajor_val3 _ (1 * 896) 896 rfl rfl]
  have := u.isLt
  show g.val * (1 * 896) + u.val * 896 + T.val = g.val * 896 + T.val
  omega

theorem read_scalesChunk (x : (⟨3, ![2, 896, 30]⟩ : Shape).Idx → α)
    (ht : (⟨3, ![2, 896, 30]⟩ : Shape).Transposes [0, 2, 1] ⟨3, ![2, 30, 896]⟩)
    (hs : (⟨3, ![2, 30, 896]⟩ : Shape).ShapeCasts ⟨3, ![60, 14, 64]⟩) (g : Fin 60) (n : Fin 14) (c : Fin 64) :
    shapeCast ⟨3, ![60, 14, 64]⟩ (transpose ⟨3, ![2, 30, 896]⟩ [0, 2, 1] x ht) hs (ix3 g n c)
      = x (ix3 (batch g) ⟨64 * n.val + c.val, by have := n.isLt; have := c.isLt; omega⟩ (inBatch g)) := by
  refine read_scales_of x ht hs g _ _ ?_
  rw [rowMajor_val3 _ (14 * 64) 64 rfl rfl]
  show g.val * (14 * 64) + n.val * 64 + c.val = g.val * 896 + (64 * n.val + c.val)
  omega

theorem read_inverses (x : (⟨3, ![32, 960, 128]⟩ : Shape).Idx → α)
    (h1 : (⟨3, ![32, 960, 128]⟩ : Shape).ShapeCasts ⟨5, ![32, 60, 16, 2, 64]⟩)
    (ht : (⟨5, ![32, 60, 16, 2, 64]⟩ : Shape).Transposes [1, 2, 3, 0, 4] ⟨5, ![60, 16, 2, 32, 64]⟩)
    (h2 : (⟨5, ![60, 16, 2, 32, 64]⟩ : Shape).ShapeCasts ⟨4, ![60, 16, 64, 64]⟩) (g : Fin 60) (n : Fin 16) (r c : Fin 64) :
    shapeCast ⟨4, ![60, 16, 64, 64]⟩ (transpose ⟨5, ![60, 16, 2, 32, 64]⟩ [1, 2, 3, 0, 4]
        (shapeCast ⟨5, ![32, 60, 16, 2, 64]⟩ x h1) ht) h2 (ix4 g n r c)
      = x (ix3 ⟨r.val % 32, by omega⟩ ⟨16 * g.val + n.val, by have := g.isLt; have := n.isLt; omega⟩
          ⟨64 * (r.val / 32) + c.val, by have := r.isLt; have := c.isLt; omega⟩) := by
  have hr := r.isLt
  have hc := c.isLt
  refine Eq.trans (b := transpose ⟨5, ![60, 16, 2, 32, 64]⟩ [1, 2, 3, 0, 4] (shapeCast ⟨5, ![32, 60, 16, 2, 64]⟩ x h1) ht
      (ix5 g n ⟨r.val / 32, by omega⟩ ⟨r.val % 32, by omega⟩ c)) ?_ ?_
  · refine congrArg (transpose ⟨5, ![60, 16, 2, 32, 64]⟩ [1, 2, 3, 0, 4] (shapeCast ⟨5, ![32, 60, 16, 2, 64]⟩ x h1) ht)
      (Shape.reshapeEquiv_eq_of_rowMajor _ ?_)
    rw [rowMajor_val4 _ (16 * (64 * 64)) (64 * 64) 64 rfl rfl rfl, rowMajor_val5 _ (16 * (2 * (32 * 64))) (2 * (32 * 64)) (32 * 64) 64 rfl rfl rfl rfl]
    show g.val * (16 * (2 * (32 * 64))) + n.val * (2 * (32 * 64)) + r.val / 32 * (32 * 64) + r.val % 32 * 64 + c.val
      = g.val * (16 * (64 * 64)) + n.val * (64 * 64) + r.val * 64 + c.val
    omega
  · refine Eq.trans (b := shapeCast ⟨5, ![32, 60, 16, 2, 64]⟩ x h1 (ix5 ⟨r.val % 32, by omega⟩ g n ⟨r.val / 32, by omega⟩ c)) (congrArg (shapeCast ⟨5, ![32, 60, 16, 2, 64]⟩ x h1) ?_) ?_
    · funext d; match d with | ⟨0, _⟩ => rfl | ⟨1, _⟩ => rfl | ⟨2, _⟩ => rfl | ⟨3, _⟩ => rfl | ⟨4, _⟩ => rfl
    · refine congrArg x (Shape.reshapeEquiv_eq_of_rowMajor _ ?_)
      rw [rowMajor_val3 _ (960 * 128) 128 rfl rfl, rowMajor_val5 _ (60 * (16 * (2 * 64))) (16 * (2 * 64)) (2 * 64) 64 rfl rfl rfl rfl]
      show r.val % 32 * (960 * 128) + (16 * g.val + n.val) * 128 + (64 * (r.val / 32) + c.val)
        = r.val % 32 * (60 * (16 * (2 * 64))) + g.val * (16 * (2 * 64)) + n.val * (2 * 64) + r.val / 32 * 64 + c.val
      omega

theorem read_chunk (x : (⟨4, ![60, 1, 64, 64]⟩ : Shape).Idx → α) (hc : (⟨4, ![60, 1, 64, 64]⟩ : Shape).ShapeCasts ⟨3, ![60, 64, 64]⟩)
    (g : Fin 60) (r c : Fin 64) : shapeCast ⟨3, ![60, 64, 64]⟩ x hc (ix3 g r c) = x (ix4 g 0 r c) := by
  refine congrArg x (Shape.reshapeEquiv_eq_of_rowMajor _ ?_)
  rw [rowMajor_val3 _ (64 * 64) 64 rfl rfl, rowMajor_val4 _ (1 * (64 * 64)) (64 * 64) 64 rfl rfl rfl]
  show g.val * (1 * (64 * 64)) + 0 * (64 * 64) + r.val * 64 + c.val = g.val * (64 * 64) + r.val * 64 + c.val
  omega

theorem read_inverse (x : (⟨4, ![60, 16, 64, 64]⟩ : Shape).Idx → α) (n : ℕ) (h : n < 16)
    (hs : (⟨4, ![60, 16, 64, 64]⟩ : Shape).Slices ![0, n, 0, 0] ⟨4, ![60, 1, 64, 64]⟩)
    (hc : (⟨4, ![60, 1, 64, 64]⟩ : Shape).ShapeCasts ⟨3, ![60, 64, 64]⟩) (g : Fin 60) (r c : Fin 64) :
    shapeCast ⟨3, ![60, 64, 64]⟩ (extractStridedSlice ⟨4, ![60, 1, 64, 64]⟩ ![0, n, 0, 0] x hs) hc (ix3 g r c) = x (ix4 g ⟨n, h⟩ r c) := by
  refine (read_chunk _ hc g r c).trans (congrArg x ?_)
  funext d
  match d with
  | ⟨0, _⟩ => exact Fin.ext (Nat.zero_add _)
  | ⟨1, _⟩ => exact Fin.ext (Nat.add_zero _)
  | ⟨2, _⟩ => exact Fin.ext (Nat.zero_add _)
  | ⟨3, _⟩ => exact Fin.ext (Nat.zero_add _)

/-- The segments, repeated for every head of the batch. -/
theorem read_segs (x : (⟨2, ![2, 896]⟩ : Shape).Idx → α) (h1 : (⟨2, ![2, 896]⟩ : Shape).ShapeCasts ⟨3, ![2, 1, 896]⟩)
    (h2 : (⟨3, ![2, 1, 896]⟩ : Shape).ShapeCasts ⟨3, ![2, 1, 896]⟩) (hb : (⟨3, ![2, 1, 896]⟩ : Shape).Broadcasts ⟨3, ![2, 30, 896]⟩)
    (b : Fin 2) (c : Fin 30) (T : Fin 896) :
    broadcastTo ⟨3, ![2, 30, 896]⟩ (shapeCast ⟨3, ![2, 1, 896]⟩ (shapeCast ⟨3, ![2, 1, 896]⟩ x h1) h2) hb (ix3 b c T) = x (ix2 b T) := by
  rw [shapeCast_id]
  refine Eq.trans (b := shapeCast ⟨3, ![2, 1, 896]⟩ x h1 (ix3 b 0 T)) (congrArg (shapeCast ⟨3, ![2, 1, 896]⟩ x h1) ?_) ?_
  · funext d
    match d with
    | ⟨0, _⟩ => exact (dif_neg (show ¬ (2 : ℕ) = 1 by decide)).trans rfl
    | ⟨1, _⟩ => rfl
    | ⟨2, _⟩ => exact (dif_neg (show ¬ (896 : ℕ) = 1 by decide)).trans rfl
  · refine congrArg x (Shape.reshapeEquiv_eq_of_rowMajor _ ?_)
    rw [rowMajor_val2 _ 896 rfl, rowMajor_val3 _ (1 * 896) 896 rfl rfl]
    show b.val * 896 + T.val = b.val * (1 * 896) + 0 * 896 + T.val
    omega

theorem read_byHead {s : Shape} (x : (⟨3, ![2, 30, 896]⟩ : Shape).Idx → α) (hs : (⟨3, ![2, 30, 896]⟩ : Shape).ShapeCasts s) (g : Fin 60) (T : Fin 896)
    (i : s.Idx) (hi : (s.rowMajor i).val = g.val * 896 + T.val) : shapeCast s x hs i = x (ix3 (batch g) (inBatch g) T) := by
  refine congrArg x (Shape.reshapeEquiv_eq_of_rowMajor _ ?_)
  rw [hi, rowMajor_val3 _ (30 * 896) 896 rfl rfl]
  show g.val / 30 * (30 * 896) + g.val % 30 * 896 + T.val = g.val * 896 + T.val
  omega

end

/-! ### The arguments -/

/-- The arguments of the two programs. -/
structure Args where
  q : (⟨4, ![2, 896, 30, 96]⟩ : Shape).Idx → EReal
  qs : (⟨3, ![2, 896, 30]⟩ : Shape).Idx → EReal
  k : (⟨4, ![2, 896, 30, 96]⟩ : Shape).Idx → EReal
  ks : (⟨3, ![2, 896, 30]⟩ : Shape).Idx → EReal
  w : (⟨4, ![2, 896, 30, 96]⟩ : Shape).Idx → EReal
  b : (⟨3, ![32, 960, 128]⟩ : Shape).Idx → EReal
  v : (⟨4, ![2, 896, 30, 96]⟩ : Shape).Idx → EReal
  seg : (⟨2, ![2, 896]⟩ : Shape).Idx → BitVec 32

/-- All entries are real numbers. -/
def Finite {s : Shape} (x : s.Idx → EReal) : Prop := ∀ i, x i = ((x i).toReal : EReal)

namespace Args

variable (A : Args) (g : Fin 60)

/-- The codes, the scales and the chunk inverses are finite. -/
structure Ok : Prop where
  q : Finite A.q
  qs : Finite A.qs
  k : Finite A.k
  ks : Finite A.ks
  w : Finite A.w
  b : Finite A.b

/-- The index of token `T`, entry `e` of the head. -/
def at4 (T e : ℕ) : (⟨4, ![2, 896, 30, 96]⟩ : Shape).Idx := ix4 (batch g) (Fin.ofNat 896 T) (inBatch g) (Fin.ofNat 96 e)
/-- The index of token `T` of the head. -/
def at3 (T : ℕ) : (⟨3, ![2, 896, 30]⟩ : Shape).Idx := ix3 (batch g) (Fin.ofNat 896 T) (inBatch g)
/-- The index of row `r`, column `c` of chunk `n`'s inverse. -/
def atB (n r c : ℕ) : (⟨3, ![32, 960, 128]⟩ : Shape).Idx :=
  ix3 (Fin.ofNat 32 (r % 32)) (Fin.ofNat 960 (16 * g.val + n)) (Fin.ofNat 128 (64 * (r / 32) + c))

/-- The head's real entries. -/
def head : Head where
  q T e := (A.q (at4 g T e)).toReal
  k T e := (A.k (at4 g T e)).toReal
  w T e := (A.w (at4 g T e)).toReal
  qs T := (A.qs (at3 g T)).toReal
  ks T := (A.ks (at3 g T)).toReal
  B n r c := (A.b (atB g n r c)).toReal

/-- The head's segments. -/
def segment (T : ℕ) : BitVec 32 := A.seg (ix2 (batch g) (Fin.ofNat 896 T))
/-- The head's values. -/
def value (T e : ℕ) : EReal := A.v (at4 g T e)

theorem ofNat_eq {n a : ℕ} [NeZero n] (h : a < n) : Fin.ofNat n a = ⟨a, h⟩ := Fin.ext (Nat.mod_eq_of_lt h)

theorem at4_eq {T e : ℕ} (hT : T < 896) (he : e < 96) : at4 g T e = ix4 (batch g) ⟨T, hT⟩ (inBatch g) ⟨e, he⟩ := by
  unfold at4; rw [ofNat_eq hT, ofNat_eq he]
theorem at3_eq {T : ℕ} (hT : T < 896) : at3 g T = ix3 (batch g) ⟨T, hT⟩ (inBatch g) := by
  unfold at3; rw [ofNat_eq hT]
theorem atB_eq {n r c : ℕ} (hr : r % 32 < 32) (hn : 16 * g.val + n < 960) (hc : 64 * (r / 32) + c < 128) :
    atB g n r c = ix3 ⟨r % 32, hr⟩ ⟨16 * g.val + n, hn⟩ ⟨64 * (r / 32) + c, hc⟩ := by
  unfold atB; rw [ofNat_eq hr, ofNat_eq hn, ofNat_eq hc]
theorem segment_eq {T : ℕ} (hT : T < 896) : A.segment g T = A.seg (ix2 (batch g) ⟨T, hT⟩) := by
  unfold segment; rw [ofNat_eq hT]
theorem value_eq {T e : ℕ} (hT : T < 896) (he : e < 96) : A.value g T e = A.v (ix4 (batch g) ⟨T, hT⟩ (inBatch g) ⟨e, he⟩) := by
  unfold value; rw [at4_eq g hT he]

end Args

end Cert.Path
-- ==== Proof.Block.lean ====
/- One grid point of the kernel over the arguments' blocks of one head: its inputs are the head, and its output block holds
   the softmax means of the head's tokens. -/
module

public import proofs.«01_k».proof.Proof.Keys
public import proofs.«01_k».proof.Proof.Arrays
public import Idealize.ShloMosaic.Lib.Pipeline.ValueKit.Tiles

@[expose] public section

set_option maxRecDepth 16384

noncomputable section

open scoped BigOperators

namespace Cert.Path

open Idealize.ShloMosaic Idealize.SL.Sem Cert.KernelIdeal Cert.KernelIdeal.Facts₀ Cert.KernelIdeal.Facts

/-- The blocks of the grid point are head `g`'s. -/
structure Point.Block (P : Point Ideal) (A : Args) (g : Fin 60) : Prop where
  q : ∀ (u : Fin 1) T e, P.x0 (ix3 u T e) = A.q (ix4 (batch g) T (inBatch g) e)
  k : ∀ (u : Fin 1) T e, P.x1 (ix3 u T e) = A.k (ix4 (batch g) T (inBatch g) e)
  w : ∀ (u : Fin 1) T e, P.x2 (ix3 u T e) = A.w (ix4 (batch g) T (inBatch g) e)
  v : ∀ (u : Fin 1) T e, P.x3 (ix3 u T e) = A.v (ix4 (batch g) T (inBatch g) e)
  b : ∀ r (n : Fin 16) c (h : 16 * g.val + n.val < 960), P.x4 (ix3 r n c) = A.b (ix3 r ⟨16 * g.val + n.val, h⟩ c)
  qs : ∀ (u : Fin 1) T (x : Fin 1), P.x5 (ix3 u T x) = A.qs (ix3 (batch g) T (inBatch g))
  ks : ∀ (u : Fin 1) (n : Fin 14) (c : Fin 64) (h : 64 * n.val + c.val < 896), P.x6 (ix3 u n c) = A.ks (ix3 (batch g) ⟨64 * n.val + c.val, h⟩ (inBatch g))
  segk : ∀ (u x : Fin 1) T, P.x7 (ix3 u x T) = A.seg (ix2 (batch g) T)
  segq : ∀ (u : Fin 1) T (x : Fin 1), P.x8 (ix3 u T x) = A.seg (ix2 (batch g) T)

namespace Point

/-! ### Loads -/

section
variable {e : EltTy} {w m t : ℕ}

theorem flat {α : Type} (y : (⟨3, ![1, w, m]⟩ : Shape).Idx → α) (hc : (⟨3, ![1, w, m]⟩ : Shape).ShapeCasts ⟨2, ![w, m]⟩) (i : Fin w) (j : Fin m) :
    shapeCast ⟨2, ![w, m]⟩ y hc (ix2 i j) = y (ix3 0 i j) := by
  refine congrArg y (Shape.reshapeEquiv_eq_of_rowMajor _ ?_)
  rw [rowMajor_val2 _ m rfl, rowMajor_val3 (d := ![1, w, m]) _ (w * m) m rfl rfl]
  show 0 * (w * m) + i.val * m + j.val = i.val * m + j.val
  omega

theorem load_tokens (x : (⟨3, ![1, 896, m]⟩ : Shape).Idx → Elt Ideal e) (inb) (hc : (⟨3, ![1, w, m]⟩ : Shape).ShapeCasts ⟨2, ![w, m]⟩)
    (i : Fin w) (j : Fin m) (h : t + i.val < 896) :
    shapeCast ⟨2, ![w, m]⟩ (View.ld x (Rect.unit (s := ⟨3, ![1, 896, m]⟩) ![0, t, 0] ![1, w, m] inb)) hc (ix2 i j) = x (ix3 0 ⟨t + i.val, h⟩ j) := by
  refine (flat _ hc i j).trans (View.ld_unit_apply_of x _ _ _ _ _ fun a => ?_)
  match a with
  | ⟨0, _⟩ => rfl
  | ⟨1, _⟩ => rfl
  | ⟨2, _⟩ => exact (Nat.zero_add _).symm

theorem load_keys (x : (⟨3, ![1, 1, 896]⟩ : Shape).Idx → Elt Ideal e) (inb) (hc : (⟨3, ![1, 1, w]⟩ : Shape).ShapeCasts ⟨2, ![1, w]⟩)
    (j : Fin w) (h : t + j.val < 896) :
    shapeCast ⟨2, ![1, w]⟩ (View.ld x (Rect.unit (s := ⟨3, ![1, 1, 896]⟩) ![0, 0, t] ![1, 1, w] inb)) hc (ix2 0 j) = x (ix3 0 0 ⟨t + j.val, h⟩) := by
  refine (flat _ hc 0 j).trans (View.ld_unit_apply_of x _ _ _ _ _ fun a => ?_)
  match a with
  | ⟨0, _⟩ => rfl
  | ⟨1, _⟩ => rfl
  | ⟨2, _⟩ => rfl

theorem load_row {n : ℕ} (x : (⟨3, ![1, 14, 64]⟩ : Shape).Idx → Elt Ideal e) (inb) (hc : (⟨3, ![1, 1, 64]⟩ : Shape).ShapeCasts ⟨2, ![1, 64]⟩)
    (u : Fin 1) (j : Fin 64) (h : n < 14) :
    shapeCast ⟨2, ![1, 64]⟩ (View.ld x (Rect.unit (s := ⟨3, ![1, 14, 64]⟩) ![0, n, 0] ![1, 1, 64] inb)) hc (ix2 u j) = x (ix3 0 ⟨n, h⟩ j) := by
  have hu := u.isLt
  refine (flat _ hc u j).trans (View.ld_unit_apply_of x _ _ _ _ _ fun a => ?_)
  match a with
  | ⟨0, _⟩ => rfl
  | ⟨1, _⟩ => show n = n + u.val; omega
  | ⟨2, _⟩ => exact (Nat.zero_add _).symm

theorem load_lanes {n : ℕ} (x : (⟨3, ![32, 16, 128]⟩ : Shape).Idx → Elt Ideal e) (inb) (r : Fin 32) (u : Fin 1) (c : Fin 128) (h : n < 16) :
    View.ld x (Rect.unit (s := ⟨3, ![32, 16, 128]⟩) ![0, n, 0] ![32, 1, 128] inb) (ix3 r u c) = x (ix3 r ⟨n, h⟩ c) := by
  have hu := u.isLt
  refine View.ld_unit_apply_of x _ _ _ _ _ fun a => ?_
  match a with
  | ⟨0, _⟩ => exact (Nat.zero_add _).symm
  | ⟨1, _⟩ => show n = n + u.val; omega
  | ⟨2, _⟩ => exact (Nat.zero_add _).symm

theorem lanes {α : Type} (y : (⟨3, ![32, 1, 128]⟩ : Shape).Idx → α) (hc : (⟨3, ![32, 1, 128]⟩ : Shape).ShapeCasts ⟨2, ![32, 128]⟩) (r : Fin 32) (c : Fin 128) :
    shapeCast ⟨2, ![32, 128]⟩ y hc (ix2 r c) = y (ix3 r 0 c) := by
  refine congrArg y (Shape.reshapeEquiv_eq_of_rowMajor _ ?_)
  rw [rowMajor_val2 _ 128 rfl, rowMajor_val3 _ (1 * 128) 128 rfl rfl]
  show r.val * (1 * 128) + 0 * 128 + c.val = r.val * 128 + c.val
  omega

end

/-! ### The inputs -/

section
variable {P : Point Ideal} {A : Args} {g : Fin 60} (B : P.Block A g) (ok : A.Ok)

include ok B in
theorem holds : P.Holds (A.head g) (A.segment g) (A.value g) where
  q n h := fun i j => by
    have hi := i.isLt
    have hT : 64 * n + i.val < 896 := by omega
    refine Eq.trans ?_ (ok.q (Args.at4 g (64 * n + i.val) j.val))
    rw [Args.at4_eq g hT j.isLt, ← B.q 0]
    unfold Point.q
    rw [View.readAt_eq_ld, P.h1.read_unread]
    exact load_tokens P.x0 _ _ i j hT
  k n h := fun i j => by
    have hi := i.isLt
    have hT : 64 * n + i.val < 896 := by omega
    refine Eq.trans ?_ (ok.k (Args.at4 g (64 * n + i.val) j.val))
    rw [Args.at4_eq g hT j.isLt, ← B.k 0]
    unfold Point.k
    rw [View.readAt_eq_ld, P.h2.read_unread]
    exact load_tokens P.x1 _ _ i j hT
  w n h := fun i j => by
    have hi := i.isLt
    have hT : 64 * n + i.val < 896 := by omega
    refine Eq.trans ?_ (ok.w (Args.at4 g (64 * n + i.val) j.val))
    rw [Args.at4_eq g hT j.isLt, ← B.w 0]
    unfold Point.w
    rw [View.readAt_eq_ld, P.h3.read_unread]
    exact load_tokens P.x2 _ _ i j hT
  b n h := by
    have hg := g.isLt
    have hx : Reals (shapeCast S32x128 (P.b n (ch n h)) shapeCasts_S32x1x128_S32x128)
        fun r c => (A.b (ix3 (Fin.ofNat 32 r) (Fin.ofNat 960 (16 * g.val + n)) (Fin.ofNat 128 c))).toReal := fun r c => by
      refine Eq.trans ?_ (ok.b (ix3 (Fin.ofNat 32 r) (Fin.ofNat 960 (16 * g.val + n)) (Fin.ofNat 128 c)))
      rw [Args.ofNat_eq r.isLt, Args.ofNat_eq (show 16 * g.val + n < 960 by omega), Args.ofNat_eq c.isLt,
        ← B.b r ⟨n, by omega⟩ c (show 16 * g.val + n < 960 by omega)]
      unfold Point.b
      rw [View.readAt_eq_ld, P.h5.read_unread]
      exact (lanes _ _ r c).trans (load_lanes P.x4 _ r 0 c _)
    refine (Reals.cat0_2 (hx.slice _) (hx.slice _) concatenates_S32x64_S32x64_S64x64_d0).congr fun r hr c hc => ?_
    show above 32 _ _ r c = (A.b (Args.atB g n r c)).toReal
    unfold above Args.atB
    by_cases h32 : r < 32
    · rw [if_pos h32, Nat.mod_eq_of_lt h32, Nat.div_eq_of_lt h32]; simp
    · rw [if_neg h32, show r % 32 = r - 32 by omega, show r / 32 = 1 by omega]; simp
  qs n h := fun i j => by
    have hi := i.isLt
    have hT : 64 * n + i.val < 896 := by omega
    refine Eq.trans ?_ (ok.qs (Args.at3 g (64 * n + i.val)))
    rw [Args.at3_eq g hT, ← B.qs 0 _ j]
    unfold Point.qs
    rw [View.readAt_eq_ld, P.h6.read_unread]
    exact load_tokens P.x5 _ _ i j hT
  ks n h := fun i j => by
    have hj := j.isLt
    have hT : 64 * n + j.val < 896 := by omega
    refine Eq.trans ?_ (ok.ks (Args.at3 g (64 * n + j.val)))
    rw [Args.at3_eq g hT, ← B.ks 0 ⟨n, h⟩ j]
    unfold Point.ks
    rw [View.readAt_eq_ld, P.h7.read_unread]
    exact load_row P.x6 _ _ i j h
  segq n h i := by
    have hi := i.isLt
    have hT : 64 * n + i.val < 896 := by omega
    rw [Args.segment_eq A g hT, ← B.segq 0 _ 0]
    unfold Point.segq
    rw [View.readAt_eq_ld, P.h9.read_unread]
    exact load_tokens (e := .i32) P.x8 _ _ i 0 hT
  segk w t h j := by
    have hj := j.isLt
    have hT : t + j.val < 896 := by omega
    rw [Args.segment_eq A g hT, ← B.segk 0 0]
    unfold Point.segk
    rw [View.readAt_eq_ld, P.h8.read_unread]
    exact load_keys (e := .i32) P.x7 _ _ j hT
  v w t h := fun j e => by
    have hj := j.isLt
    have hT : t + j.val < 896 := by omega
    show P.v w t h (ix2 j e) = A.value g (t + j.val) e.val
    rw [Args.value_eq A g hT e.isLt, ← B.v 0]
    unfold Point.v
    rw [View.readAt_eq_ld, P.h4.read_unread]
    exact load_tokens P.x3 _ _ j e hT

end

/-! ### The output block -/

/-- After all chunks a row holds its chunk's result. -/
theorem canon_outStores (P : Point Ideal) (k : ℕ) (hk : k < 14) (u : Fin 1) (t : Fin 64) (T : Fin 896) (e : Fin 96) (hT : T.val = 64 * k + t.val) :
    ∀ n (h : n ≤ 14), k < n → View.canon (Val := Elt Ideal) (P.outStores n h) (ix3 u T e) = P.result k hk (ix3 u t e) := by
  intro n
  induction n with
  | zero => intro _ h; exact absurd h (Nat.not_lt_zero k)
  | succ n ih =>
    intro h hkn
    have ht := t.isLt
    have hu := u.isLt
    by_cases hn : k = n
    · subst hn
      have ee : (ix3 u T e : S1x896x96.Idx) = (Rect.unit (s := S1x896x96) ![0, 64 * k, 0] S1x64x96.size (inbTokens (tok k h))).emb (ix3 u t e) := by
        funext d
        match d with
        | ⟨0, _⟩ => exact Fin.ext (show u.val = 0 + 1 * u.val by omega)
        | ⟨1, _⟩ => exact Fin.ext (show T.val = 64 * k + 1 * t.val by omega)
        | ⟨2, _⟩ => exact Fin.ext (show e.val = 0 + 1 * e.val by omega)
      rw [ee]
      exact View.canon_cons_emb _ _ _ _
    · refine (View.canon_cons_of_not_mem _ _ ?_).trans (ih (Nat.le_of_succ_le h) (by omega))
      intro hm
      have := (Rect.mem_set_unit (inb := inbTokens (tok n h))).mp hm 1
      have h1 : 64 * n ≤ T.val := this.1
      omega

end Point

end Cert.Path
-- ==== Proof.Words.lean ====
/- The words of the kernel's run at one grid point are the values of `Point`: the piece lists of the three scratch
   buffers after each chunk, and the pieces of the output block. -/
module

public import proofs.«01_k».proof.Proof.Point

@[expose] public section

set_option maxRecDepth 16384

noncomputable section

namespace Cert.Path

open Idealize.ShloMosaic Idealize.SL.Sem Cert.KernelIdeal Cert.KernelIdeal.Facts₀ Cert.KernelIdeal.Facts Cert.KernelIdeal.Gen

namespace Point

variable {F : FTy → Type} [FloatOps F] [Named F] (P : Point F)

theorem ys1 {n : ℕ} (h : n < 14) {L1 L2 L3 : Stores F} (e1 : L1 = (P.ys n h.le).1) (e2 : L2 = (P.ys n h.le).2.1)
    (e3 : L3 = (P.ys n h.le).2.2) : P.stores n h L1 L2 L3 Stage.part1 L1 = (P.ys (n + 1) h).1 := by
  subst e1 e2 e3; rfl

theorem ys2 {n : ℕ} (h : n < 14) {L1 L2 L3 : Stores F} (e1 : L1 = (P.ys n h.le).1) (e2 : L2 = (P.ys n h.le).2.1)
    (e3 : L3 = (P.ys n h.le).2.2) : P.stores n h L1 L2 L3 Stage.part2 L2 = (P.ys (n + 1) h).2.1 := by
  subst e1 e2 e3; rfl

theorem ys3 {n : ℕ} (h : n < 14) {L1 L2 L3 : Stores F} (e1 : L1 = (P.ys n h.le).1) (e2 : L2 = (P.ys n h.le).2.1)
    (e3 : L3 = (P.ys n h.le).2.2) : P.stores n h L1 L2 L3 Stage.part3 L3 = (P.ys (n + 1) h).2.2 := by
  subst e1 e2 e3; rfl

theorem result_of {n : ℕ} (h : n < 14) {L1 L2 : Stores F} (e1 : L1 = (P.ys n h.le).1) (e2 : L2 = (P.ys n h.le).2.1) :
    P.out n h L1 L2 = P.result n h := by
  subst e1 e2; rfl

theorem keys1_1 : (kernelRun0_A.sl.HS0_1 (F := F) P.c P.a1 P.h1 P.a2 P.h2 P.a3 P.h3 P.a5 P.h5 P.a7 P.h7 P.x0 P.x1 P.x2 P.x4 P.x6) = (P.ys 1 (by decide)).1 := by
  exact rfl

theorem keys2_1 : (kernelRun0_A.sl.HS1_1 (F := F) P.c P.a1 P.h1 P.a2 P.h2 P.a3 P.h3 P.a5 P.h5 P.a7 P.h7 P.x0 P.x1 P.x2 P.x4 P.x6) = (P.ys 1 (by decide)).2.1 := by
  exact rfl

theorem keys3_1 : (kernelRun0_A.sl.HS2_1 (F := F) P.c P.a1 P.h1 P.a2 P.h2 P.a3 P.h3 P.a5 P.h5 P.a7 P.h7 P.x0 P.x1 P.x2 P.x4 P.x6) = (P.ys 1 (by decide)).2.2 := by
  exact rfl

theorem keys1_2 : (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) = (P.ys 2 (by decide)).1 := by
  have e : (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) = P.stores 1 (by decide) (kernelRun0_A.sl.HS0_1 (F := F) P.c P.a1 P.h1 P.a2 P.h2 P.a3 P.h3 P.a5 P.h5 P.a7 P.h7 P.x0 P.x1 P.x2 P.x4 P.x6) (kernelRun0_A.sl.HS1_1 (F := F) P.c P.a1 P.h1 P.a2 P.h2 P.a3 P.h3 P.a5 P.h5 P.a7 P.h7 P.x0 P.x1 P.x2 P.x4 P.x6) (kernelRun0_A.sl.HS2_1 (F := F) P.c P.a1 P.h1 P.a2 P.h2 P.a3 P.h3 P.a5 P.h5 P.a7 P.h7 P.x0 P.x1 P.x2 P.x4 P.x6) Stage.part1 (kernelRun0_A.sl.HS0_1 (F := F) P.c P.a1 P.h1 P.a2 P.h2 P.a3 P.h3 P.a5 P.h5 P.a7 P.h7 P.x0 P.x1 P.x2 P.x4 P.x6) := by exact rfl
  exact e.trans (P.ys1 _ P.keys1_1 P.keys2_1 P.keys3_1)

theorem keys2_2 : (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) = (P.ys 2 (by decide)).2.1 := by
  have e : (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) = P.stores 1 (by decide) (kernelRun0_A.sl.HS0_1 (F := F) P.c P.a1 P.h1 P.a2 P.h2 P.a3 P.h3 P.a5 P.h5 P.a7 P.h7 P.x0 P.x1 P.x2 P.x4 P.x6) (kernelRun0_A.sl.HS1_1 (F := F) P.c P.a1 P.h1 P.a2 P.h2 P.a3 P.h3 P.a5 P.h5 P.a7 P.h7 P.x0 P.x1 P.x2 P.x4 P.x6) (kernelRun0_A.sl.HS2_1 (F := F) P.c P.a1 P.h1 P.a2 P.h2 P.a3 P.h3 P.a5 P.h5 P.a7 P.h7 P.x0 P.x1 P.x2 P.x4 P.x6) Stage.part2 (kernelRun0_A.sl.HS1_1 (F := F) P.c P.a1 P.h1 P.a2 P.h2 P.a3 P.h3 P.a5 P.h5 P.a7 P.h7 P.x0 P.x1 P.x2 P.x4 P.x6) := by exact rfl
  exact e.trans (P.ys2 _ P.keys1_1 P.keys2_1 P.keys3_1)

theorem keys3_2 : (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) = (P.ys 2 (by decide)).2.2 := by
  have e : (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) = P.stores 1 (by decide) (kernelRun0_A.sl.HS0_1 (F := F) P.c P.a1 P.h1 P.a2 P.h2 P.a3 P.h3 P.a5 P.h5 P.a7 P.h7 P.x0 P.x1 P.x2 P.x4 P.x6) (kernelRun0_A.sl.HS1_1 (F := F) P.c P.a1 P.h1 P.a2 P.h2 P.a3 P.h3 P.a5 P.h5 P.a7 P.h7 P.x0 P.x1 P.x2 P.x4 P.x6) (kernelRun0_A.sl.HS2_1 (F := F) P.c P.a1 P.h1 P.a2 P.h2 P.a3 P.h3 P.a5 P.h5 P.a7 P.h7 P.x0 P.x1 P.x2 P.x4 P.x6) Stage.part3 (kernelRun0_A.sl.HS2_1 (F := F) P.c P.a1 P.h1 P.a2 P.h2 P.a3 P.h3 P.a5 P.h5 P.a7 P.h7 P.x0 P.x1 P.x2 P.x4 P.x6) := by exact rfl
  exact e.trans (P.ys3 _ P.keys1_1 P.keys2_1 P.keys3_1)

theorem keys1_3 : (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) = (P.ys 3 (by decide)).1 := by
  have e : (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) = P.stores 2 (by decide) (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_2 P.keys2_2 P.keys3_2)

theorem keys2_3 : (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) = (P.ys 3 (by decide)).2.1 := by
  have e : (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) = P.stores 2 (by decide) (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_2 P.keys2_2 P.keys3_2)

theorem keys3_3 : (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) = (P.ys 3 (by decide)).2.2 := by
  have e : (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) = P.stores 2 (by decide) (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_3 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_2 P.keys2_2 P.keys3_2)

theorem keys1_4 : (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) = (P.ys 4 (by decide)).1 := by
  have e : (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) = P.stores 3 (by decide) (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_3 P.keys2_3 P.keys3_3)

theorem keys2_4 : (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) = (P.ys 4 (by decide)).2.1 := by
  have e : (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) = P.stores 3 (by decide) (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_3 P.keys2_3 P.keys3_3)

theorem keys3_4 : (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) = (P.ys 4 (by decide)).2.2 := by
  have e : (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) = P.stores 3 (by decide) (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_5 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_3 P.keys2_3 P.keys3_3)

theorem keys1_5 : (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) = (P.ys 5 (by decide)).1 := by
  have e : (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) = P.stores 4 (by decide) (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_4 P.keys2_4 P.keys3_4)

theorem keys2_5 : (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) = (P.ys 5 (by decide)).2.1 := by
  have e : (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) = P.stores 4 (by decide) (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_4 P.keys2_4 P.keys3_4)

theorem keys3_5 : (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) = (P.ys 5 (by decide)).2.2 := by
  have e : (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) = P.stores 4 (by decide) (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_7 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_4 P.keys2_4 P.keys3_4)

theorem keys1_6 : (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) = (P.ys 6 (by decide)).1 := by
  have e : (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) = P.stores 5 (by decide) (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_5 P.keys2_5 P.keys3_5)

theorem keys2_6 : (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) = (P.ys 6 (by decide)).2.1 := by
  have e : (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) = P.stores 5 (by decide) (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_5 P.keys2_5 P.keys3_5)

theorem keys3_6 : (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) = (P.ys 6 (by decide)).2.2 := by
  have e : (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) = P.stores 5 (by decide) (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_9 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_5 P.keys2_5 P.keys3_5)

theorem keys1_7 : (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) = (P.ys 7 (by decide)).1 := by
  have e : (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) = P.stores 6 (by decide) (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_6 P.keys2_6 P.keys3_6)

theorem keys2_7 : (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) = (P.ys 7 (by decide)).2.1 := by
  have e : (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) = P.stores 6 (by decide) (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_6 P.keys2_6 P.keys3_6)

theorem keys3_7 : (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) = (P.ys 7 (by decide)).2.2 := by
  have e : (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) = P.stores 6 (by decide) (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_12 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_6 P.keys2_6 P.keys3_6)

theorem keys1_8 : (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) = (P.ys 8 (by decide)).1 := by
  have e : (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) = P.stores 7 (by decide) (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_7 P.keys2_7 P.keys3_7)

theorem keys2_8 : (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) = (P.ys 8 (by decide)).2.1 := by
  have e : (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) = P.stores 7 (by decide) (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_7 P.keys2_7 P.keys3_7)

theorem keys3_8 : (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) = (P.ys 8 (by decide)).2.2 := by
  have e : (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) = P.stores 7 (by decide) (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_15 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_7 P.keys2_7 P.keys3_7)

theorem keys1_9 : (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) = (P.ys 9 (by decide)).1 := by
  have e : (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) = P.stores 8 (by decide) (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_8 P.keys2_8 P.keys3_8)

theorem keys2_9 : (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) = (P.ys 9 (by decide)).2.1 := by
  have e : (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) = P.stores 8 (by decide) (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_8 P.keys2_8 P.keys3_8)

theorem keys3_9 : (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) = (P.ys 9 (by decide)).2.2 := by
  have e : (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) = P.stores 8 (by decide) (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_18 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_8 P.keys2_8 P.keys3_8)

theorem keys1_10 : (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) = (P.ys 10 (by decide)).1 := by
  have e : (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) = P.stores 9 (by decide) (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_9 P.keys2_9 P.keys3_9)

theorem keys2_10 : (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) = (P.ys 10 (by decide)).2.1 := by
  have e : (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) = P.stores 9 (by decide) (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_9 P.keys2_9 P.keys3_9)

theorem keys3_10 : (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) = (P.ys 10 (by decide)).2.2 := by
  have e : (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) = P.stores 9 (by decide) (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_21 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_9 P.keys2_9 P.keys3_9)

theorem keys1_11 : (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) = (P.ys 11 (by decide)).1 := by
  have e : (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) = P.stores 10 (by decide) (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_10 P.keys2_10 P.keys3_10)

theorem keys2_11 : (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) = (P.ys 11 (by decide)).2.1 := by
  have e : (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) = P.stores 10 (by decide) (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_10 P.keys2_10 P.keys3_10)

theorem keys3_11 : (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) = (P.ys 11 (by decide)).2.2 := by
  have e : (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) = P.stores 10 (by decide) (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_25 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_10 P.keys2_10 P.keys3_10)

theorem keys1_12 : (kernelRun0_A.sl.HS0_33 (F := F) P.c P.a1 P.h1 P.a2 P.h2 P.a3 P.h3 P.a5 P.h5 P.a6 P.h6 P.a7 P.h7 P.a11 P.a12 P.a13 P.x0 P.x1 P.x2 P.x4 P.x5 P.x6) = (P.ys 12 (by decide)).1 := by
  have e : (kernelRun0_A.sl.HS0_33 (F := F) P.c P.a1 P.h1 P.a2 P.h2 P.a3 P.h3 P.a5 P.h5 P.a6 P.h6 P.a7 P.h7 P.a11 P.a12 P.a13 P.x0 P.x1 P.x2 P.x4 P.x5 P.x6) = P.stores 11 (by decide) (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_11 P.keys2_11 P.keys3_11)

theorem keys2_12 : (kernelRun0_A.sl.HS1_33 (F := F) P.c P.a1 P.h1 P.a2 P.h2 P.a3 P.h3 P.a5 P.h5 P.a6 P.h6 P.a7 P.h7 P.a11 P.a12 P.a13 P.x0 P.x1 P.x2 P.x4 P.x5 P.x6) = (P.ys 12 (by decide)).2.1 := by
  have e : (kernelRun0_A.sl.HS1_33 (F := F) P.c P.a1 P.h1 P.a2 P.h2 P.a3 P.h3 P.a5 P.h5 P.a6 P.h6 P.a7 P.h7 P.a11 P.a12 P.a13 P.x0 P.x1 P.x2 P.x4 P.x5 P.x6) = P.stores 11 (by decide) (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) Stage.part2 (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys2 _ P.keys1_11 P.keys2_11 P.keys3_11)

theorem keys3_12 : (kernelRun0_A.sl.HS2_33 (F := F) P.c P.a1 P.h1 P.a2 P.h2 P.a3 P.h3 P.a5 P.h5 P.a6 P.h6 P.a7 P.h7 P.a11 P.a12 P.a13 P.x0 P.x1 P.x2 P.x4 P.x5 P.x6) = (P.ys 12 (by decide)).2.2 := by
  have e : (kernelRun0_A.sl.HS2_33 (F := F) P.c P.a1 P.h1 P.a2 P.h2 P.a3 P.h3 P.a5 P.h5 P.a6 P.h6 P.a7 P.h7 P.a11 P.a12 P.a13 P.x0 P.x1 P.x2 P.x4 P.x5 P.x6) = P.stores 11 (by decide) (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) Stage.part3 (kernelRun0_A.sl.HS2_29 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys3 _ P.keys1_11 P.keys2_11 P.keys3_11)

theorem keys1_13 : (kernelRun0_A.sl.HS0_37 (F := F) P.c P.a1 P.h1 P.a2 P.h2 P.a3 P.h3 P.a5 P.h5 P.a6 P.h6 P.a7 P.h7 P.a11 P.a12 P.a13 P.x0 P.x1 P.x2 P.x4 P.x5 P.x6) = (P.ys 13 (by decide)).1 := by
  have e : (kernelRun0_A.sl.HS0_37 (F := F) P.c P.a1 P.h1 P.a2 P.h2 P.a3 P.h3 P.a5 P.h5 P.a6 P.h6 P.a7 P.h7 P.a11 P.a12 P.a13 P.x0 P.x1 P.x2 P.x4 P.x5 P.x6) = P.stores 12 (by decide) (kernelRun0_A.sl.HS0_33 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_33 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS2_33 (F := F) P.c P.a1 P.h1 P.a2 P.h2 P.a3 P.h3 P.a5 P.h5 P.a6 P.h6 P.a7 P.h7 P.a11 P.a12 P.a13 P.x0 P.x1 P.x2 P.x4 P.x5 P.x6) Stage.part1 (kernelRun0_A.sl.HS0_33 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.ys1 _ P.keys1_12 P.keys2_12 P.keys3_12)

theorem word_0 : (kernelRun0_A.sl.v134 (F := F) P.c P.a1 P.h1 P.a2 P.h2 P.a3 P.h3 P.a4 P.h4 P.a5 P.h5 P.a6 P.h6 P.a7 P.h7 P.a8 P.h8 P.a9 P.h9 P.x0 P.x1 P.x2 P.x3 P.x4 P.x5 P.x6 P.x7 P.x8) = P.result 0 (by decide) := by
  exact rfl

theorem word_1 : (kernelRun0_A.sl.v334 (F := F) P.c P.a1 P.h1 P.a2 P.h2 P.a3 P.h3 P.a4 P.h4 P.a5 P.h5 P.a6 P.h6 P.a7 P.h7 P.a8 P.h8 P.a9 P.h9 P.a11 P.a12 P.x0 P.x1 P.x2 P.x3 P.x4 P.x5 P.x6 P.x7 P.x8) = P.result 1 (by decide) := by
  have e : (kernelRun0_A.sl.v334 (F := F) P.c P.a1 P.h1 P.a2 P.h2 P.a3 P.h3 P.a4 P.h4 P.a5 P.h5 P.a6 P.h6 P.a7 P.h7 P.a8 P.h8 P.a9 P.h9 P.a11 P.a12 P.x0 P.x1 P.x2 P.x3 P.x4 P.x5 P.x6 P.x7 P.x8) = P.out 1 (by decide) (kernelRun0_A.sl.HS0_1 (F := F) P.c P.a1 P.h1 P.a2 P.h2 P.a3 P.h3 P.a5 P.h5 P.a7 P.h7 P.x0 P.x1 P.x2 P.x4 P.x6) (kernelRun0_A.sl.HS1_1 (F := F) P.c P.a1 P.h1 P.a2 P.h2 P.a3 P.h3 P.a5 P.h5 P.a7 P.h7 P.x0 P.x1 P.x2 P.x4 P.x6) := by exact rfl
  exact e.trans (P.result_of _ P.keys1_1 P.keys2_1)

theorem word_2 : (kernelRun0_A.sl.v550 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 2 (by decide) := by
  have e : (kernelRun0_A.sl.v550 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 2 (by decide) (kernelRun0_A.sl.HS0_3 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_3 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_2 P.keys2_2)

theorem word_3 : (kernelRun0_A.sl.v766 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 3 (by decide) := by
  have e : (kernelRun0_A.sl.v766 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 3 (by decide) (kernelRun0_A.sl.HS0_5 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_5 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_3 P.keys2_3)

theorem word_4 : (kernelRun0_A.sl.v982 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 4 (by decide) := by
  have e : (kernelRun0_A.sl.v982 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 4 (by decide) (kernelRun0_A.sl.HS0_7 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_7 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_4 P.keys2_4)

theorem word_5 : (kernelRun0_A.sl.v1239 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 5 (by decide) := by
  have e : (kernelRun0_A.sl.v1239 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 5 (by decide) (kernelRun0_A.sl.HS0_9 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_9 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_5 P.keys2_5)

theorem word_6 : (kernelRun0_A.sl.v1512 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 6 (by decide) := by
  have e : (kernelRun0_A.sl.v1512 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 6 (by decide) (kernelRun0_A.sl.HS0_12 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_12 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_6 P.keys2_6)

theorem word_7 : (kernelRun0_A.sl.v1785 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 7 (by decide) := by
  have e : (kernelRun0_A.sl.v1785 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 7 (by decide) (kernelRun0_A.sl.HS0_15 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_15 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_7 P.keys2_7)

theorem word_8 : (kernelRun0_A.sl.v2058 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 8 (by decide) := by
  have e : (kernelRun0_A.sl.v2058 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 8 (by decide) (kernelRun0_A.sl.HS0_18 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_18 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_8 P.keys2_8)

theorem word_9 : (kernelRun0_A.sl.v2372 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 9 (by decide) := by
  have e : (kernelRun0_A.sl.v2372 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 9 (by decide) (kernelRun0_A.sl.HS0_21 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_21 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_9 P.keys2_9)

theorem word_10 : k0_pay607 (kernelRun0_A.sl.r_158 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (kernelRun0_A.sl.r_159 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_160 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (View.readAt (Elt F) P.a4.view (Rect.unit (s := S1x896x96) ![0, 512, 0] (S1x128x96).size (inbTokens (show 512 + 128 ≤ 896 by decide))).toLoadRect (P.h4.unread P.x3)) = P.result 10 (by decide) := by
  have e : k0_pay607 (kernelRun0_A.sl.r_158 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (kernelRun0_A.sl.r_159 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_160 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (View.readAt (Elt F) P.a4.view (Rect.unit (s := S1x896x96) ![0, 512, 0] (S1x128x96).size (inbTokens (show 512 + 128 ≤ 896 by decide))).toLoadRect (P.h4.unread P.x3)) = P.out 10 (by decide) (kernelRun0_A.sl.HS0_25 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_25 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_10 P.keys2_10)

theorem word_11 : k0_pay674 (kernelRun0_A.sl.r_191 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 11 (by decide) := by
  have e : k0_pay674 (kernelRun0_A.sl.r_191 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 11 (by decide) (kernelRun0_A.sl.HS0_29 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_29 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_11 P.keys2_11)

theorem word_12 : k0_pay745 (kernelRun0_A.sl.r_216 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_218 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_221 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_222 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (k0_pay741 (F := F)) (kernelRun0_A.sl.r_223 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_224 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (View.readAt (Elt F) P.a4.view (Rect.unit (s := S1x896x96) ![0, 0, 0] (S1x256x96).size (inbTokens (show 0 + 256 ≤ 896 by decide))).toLoadRect (P.h4.unread P.x3)) (View.readAt (Elt F) P.a4.view (Rect.unit (s := S1x896x96) ![0, 256, 0] (S1x256x96).size (inbTokens (show 256 + 256 ≤ 896 by decide))).toLoadRect (P.h4.unread P.x3)) (View.readAt (Elt F) P.a4.view (Rect.unit (s := S1x896x96) ![0, 512, 0] (S1x256x96).size (inbTokens (show 512 + 256 ≤ 896 by decide))).toLoadRect (P.h4.unread P.x3)) = P.result 12 (by decide) := by
  have e : k0_pay745 (kernelRun0_A.sl.r_216 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_218 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_221 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_222 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (k0_pay741 (F := F)) (kernelRun0_A.sl.r_223 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_224 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (View.readAt (Elt F) P.a4.view (Rect.unit (s := S1x896x96) ![0, 0, 0] (S1x256x96).size (inbTokens (show 0 + 256 ≤ 896 by decide))).toLoadRect (P.h4.unread P.x3)) (View.readAt (Elt F) P.a4.view (Rect.unit (s := S1x896x96) ![0, 256, 0] (S1x256x96).size (inbTokens (show 256 + 256 ≤ 896 by decide))).toLoadRect (P.h4.unread P.x3)) (View.readAt (Elt F) P.a4.view (Rect.unit (s := S1x896x96) ![0, 512, 0] (S1x256x96).size (inbTokens (show 512 + 256 ≤ 896 by decide))).toLoadRect (P.h4.unread P.x3)) = P.out 12 (by decide) (kernelRun0_A.sl.HS0_33 (F := F) P.c P.a1 P.h1 P.a2 P.h2 P.a3 P.h3 P.a5 P.h5 P.a6 P.h6 P.a7 P.h7 P.a11 P.a12 P.a13 P.x0 P.x1 P.x2 P.x4 P.x5 P.x6) (kernelRun0_A.sl.HS1_33 (F := F) P.c P.a1 P.h1 P.a2 P.h2 P.a3 P.h3 P.a5 P.h5 P.a6 P.h6 P.a7 P.h7 P.a11 P.a12 P.a13 P.x0 P.x1 P.x2 P.x4 P.x5 P.x6) := by exact rfl
  exact e.trans (P.result_of _ P.keys1_12 P.keys2_12)

theorem word_13 : k0_pay1 (kernelRun0_A.sl.r_257 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.result 13 (by decide) := by
  have e : k0_pay1 (kernelRun0_A.sl.r_257 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) = P.out 13 (by decide) (kernelRun0_A.sl.HS0_37 (F := F) P.c P.a1 P.h1 P.a2 P.h2 P.a3 P.h3 P.a5 P.h5 P.a6 P.h6 P.a7 P.h7 P.a11 P.a12 P.a13 P.x0 P.x1 P.x2 P.x4 P.x5 P.x6) (P.ys 13 (by decide)).2.1 := by exact rfl
  exact e.trans (P.result_of _ P.keys1_13 rfl)

/-- The pieces of the output block: the results of the fourteen chunks. -/
theorem pieces (i : grid0.Coords) (a10 : Memref sig .tc .vmem S1x896x96 .bf16) (h10 : a10.IsWhole) (h11 : P.a11.IsWhole)
    (h12 : P.a12.IsWhole) (h13 : P.a13.IsWhole) :
    (kernelRun0_A P.c i P.a1 P.h1 P.a2 P.h2 P.a3 P.h3 P.a4 P.h4 P.a5 P.h5 P.a6 P.h6 P.a7 P.h7 P.a8 P.h8 P.a9 P.h9 a10 h10
      P.a11 h11 P.a12 h12 P.a13 h13 P.x0 P.x1 P.x2 P.x3 P.x4 P.x5 P.x6 P.x7 P.x8).1 = P.outStores 14 (le_refl 14) := by
  have e : (kernelRun0_A P.c i P.a1 P.h1 P.a2 P.h2 P.a3 P.h3 P.a4 P.h4 P.a5 P.h5 P.a6 P.h6 P.a7 P.h7 P.a8 P.h8 P.a9 P.h9 a10 h10
      P.a11 h11 P.a12 h12 P.a13 h13 P.x0 P.x1 P.x2 P.x3 P.x4 P.x5 P.x6 P.x7 P.x8).1 =
      [outPiece 13 (by decide) (k0_pay1 (kernelRun0_A.sl.r_257 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 12 (by decide) (k0_pay745 (kernelRun0_A.sl.r_216 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_218 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_221 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_222 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (k0_pay741 (F := F)) (kernelRun0_A.sl.r_223 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_224 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (View.readAt (Elt F) P.a4.view (Rect.unit (s := S1x896x96) ![0, 0, 0] (S1x256x96).size (inbTokens (show 0 + 256 ≤ 896 by decide))).toLoadRect (P.h4.unread P.x3)) (View.readAt (Elt F) P.a4.view (Rect.unit (s := S1x896x96) ![0, 256, 0] (S1x256x96).size (inbTokens (show 256 + 256 ≤ 896 by decide))).toLoadRect (P.h4.unread P.x3)) (View.readAt (Elt F) P.a4.view (Rect.unit (s := S1x896x96) ![0, 512, 0] (S1x256x96).size (inbTokens (show 512 + 256 ≤ 896 by decide))).toLoadRect (P.h4.unread P.x3))),
        outPiece 11 (by decide) (k0_pay674 (kernelRun0_A.sl.r_191 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 10 (by decide) (k0_pay607 (kernelRun0_A.sl.r_158 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8) (kernelRun0_A.sl.r_159 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (kernelRun0_A.sl.r_160 (F := F) P.c P.a1 P.h1 P.a2 P.h2 P.a3 P.h3 P.a5 P.h5 P.a6 P.h6 P.a7 P.h7 P.a8 P.h8 P.a9 P.h9 P.a11 P.a12 P.a13 P.x0 P.x1 P.x2 P.x4 P.x5 P.x6 P.x7 P.x8) (View.readAt (Elt F) P.a4.view (Rect.unit (s := S1x896x96) ![0, 512, 0] (S1x128x96).size (inbTokens (show 512 + 128 ≤ 896 by decide))).toLoadRect (P.h4.unread P.x3))),
        outPiece 9 (by decide) ((kernelRun0_A.sl.v2372 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 8 (by decide) ((kernelRun0_A.sl.v2058 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 7 (by decide) ((kernelRun0_A.sl.v1785 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 6 (by decide) ((kernelRun0_A.sl.v1512 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 5 (by decide) ((kernelRun0_A.sl.v1239 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 4 (by decide) ((kernelRun0_A.sl.v982 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 3 (by decide) ((kernelRun0_A.sl.v766 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 2 (by decide) ((kernelRun0_A.sl.v550 (F := F) P.c P.a1 P.h1 P.a2 P.h2 P.a3 P.h3 P.a4 P.h4 P.a5 P.h5 P.a6 P.h6 P.a7 P.h7 P.a8 P.h8 P.a9 P.h9 P.a11 P.a12 P.a13 P.x0 P.x1 P.x2 P.x3 P.x4 P.x5 P.x6 P.x7 P.x8)),
        outPiece 1 (by decide) ((kernelRun0_A.sl.v334 (F := F) P.c P.a1 P.h1 P.a2 P.h2 P.a3 P.h3 P.a4 P.h4 P.a5 P.h5 P.a6 P.h6 P.a7 P.h7 P.a8 P.h8 P.a9 P.h9 P.a11 P.a12 P.x0 P.x1 P.x2 P.x3 P.x4 P.x5 P.x6 P.x7 P.x8)),
        outPiece 0 (by decide) ((kernelRun0_A.sl.v134 (F := F) P.c P.a1 P.h1 P.a2 P.h2 P.a3 P.h3 P.a4 P.h4 P.a5 P.h5 P.a6 P.h6 P.a7 P.h7 P.a8 P.h8 P.a9 P.h9 P.x0 P.x1 P.x2 P.x3 P.x4 P.x5 P.x6 P.x7 P.x8))] := by exact rfl
  rw [e, P.word_13, P.word_12, P.word_11, P.word_10, P.word_9, P.word_8, P.word_7, P.word_6, P.word_5, P.word_4, P.word_3, P.word_2, P.word_1, P.word_0]
  exact rfl

end Point

end Cert.Path
-- ==== Proof.Staged.lean ====
/- What the kernel's windows find in the arrays: the arguments in the layout of the launch, entry by entry. -/
module

public import proofs.«01_k».proof.Proof.Arrays
public import proofs.«01_k».proof.Proof.Gen.KernelIdeal.Frame

@[expose] public section

set_option maxRecDepth 16384

noncomputable section

namespace Cert.Path

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (c : Dev nD)

/-- The kernel's arguments in the memory at launch. -/
def kernelArgs : Args where
  q := m ((c : Thread nD τ).loc main_arg0)
  qs := m ((c : Thread nD τ).loc main_arg1)
  k := m ((c : Thread nD τ).loc main_arg2)
  ks := m ((c : Thread nD τ).loc main_arg3)
  w := m ((c : Thread nD τ).loc main_arg4)
  b := m ((c : Thread nD τ).loc main_arg5)
  v := m ((c : Thread nD τ).loc main_arg6)
  seg := m ((c : Thread nD τ).loc main_arg7)

theorem staged_q (g : Fin 60) (T : Fin 896) (e : Fin 96) :
    V m c main_v4 (ix3 g T e) = (kernelArgs m c).q (ix4 (batch g) T (inBatch g) e) := by
  have e1 : V m c main_v4 = shapeCast S60x896x96 (transpose S2x30x896x96 [0, 2, 1, 3]
      (Host.convertf (φ := .f32) .fp8e4m3 (m ((c : Thread nD τ).loc main_arg0) : FVec Ideal S2x896x30x96 .f32) : FVec Ideal S2x896x30x96 .fp8e4m3)
      transposes_S2x896x30x96_S2x30x896x96_0_2_1_3) shapeCasts_S2x30x896x96_S60x896x96 := by
    show StableHlo.after hostOps0 _ (Proc.devRef .tc main_v4) = _; after_results; try rfl
  rw [e1]
  exact read_heads _ _ _ g T e

theorem staged_k (g : Fin 60) (T : Fin 896) (e : Fin 96) :
    V m c main_v6 (ix3 g T e) = (kernelArgs m c).k (ix4 (batch g) T (inBatch g) e) := by
  have e1 : V m c main_v6 = shapeCast S60x896x96 (transpose S2x30x896x96 [0, 2, 1, 3]
      (Host.convertf (φ := .f32) .fp8e4m3 (m ((c : Thread nD τ).loc main_arg2) : FVec Ideal S2x896x30x96 .f32) : FVec Ideal S2x896x30x96 .fp8e4m3)
      transposes_S2x896x30x96_S2x30x896x96_0_2_1_3) shapeCasts_S2x30x896x96_S60x896x96 := by
    show StableHlo.after hostOps0 _ (Proc.devRef .tc main_v6) = _; after_results; try rfl
  rw [e1]
  exact read_heads _ _ _ g T e

theorem staged_w (g : Fin 60) (T : Fin 896) (e : Fin 96) :
    V m c main_v8 (ix3 g T e) = (kernelArgs m c).w (ix4 (batch g) T (inBatch g) e) := by
  have e1 : V m c main_v8 = shapeCast S60x896x96 (transpose S2x30x896x96 [0, 2, 1, 3]
      (Host.convertf (φ := .f32) .fp8e4m3 (m ((c : Thread nD τ).loc main_arg4) : FVec Ideal S2x896x30x96 .f32) : FVec Ideal S2x896x30x96 .fp8e4m3)
      transposes_S2x896x30x96_S2x30x896x96_0_2_1_3) shapeCasts_S2x30x896x96_S60x896x96 := by
    show StableHlo.after hostOps0 _ (Proc.devRef .tc main_v8) = _; after_results; try rfl
  rw [e1]
  exact read_heads _ _ _ g T e

theorem staged_v (g : Fin 60) (T : Fin 896) (e : Fin 96) :
    V m c main_v10 (ix3 g T e) = (kernelArgs m c).v (ix4 (batch g) T (inBatch g) e) := by
  have e1 : V m c main_v10 = shapeCast S60x896x96 (transpose S2x30x896x96 [0, 2, 1, 3]
      (m ((c : Thread nD τ).loc main_arg6))
      transposes_S2x896x30x96_S2x30x896x96_0_2_1_3) shapeCasts_S2x30x896x96_S60x896x96 := by
    show StableHlo.after hostOps0 _ (Proc.devRef .tc main_v10) = _; after_results; try rfl
  rw [e1]
  exact read_heads _ _ _ g T e

theorem staged_qs (g : Fin 60) (T : Fin 896) (u : Fin 1) :
    V m c main_v12 (ix3 g T u) = (kernelArgs m c).qs (ix3 (batch g) T (inBatch g)) := by
  have e1 : V m c main_v12 = shapeCast S60x896x1 (transpose S2x30x896 [0, 2, 1] (m ((c : Thread nD τ).loc main_arg1))
      transposes_S2x896x30_S2x30x896_0_2_1) shapeCasts_S2x30x896_S60x896x1 := by
    show StableHlo.after hostOps0 _ (Proc.devRef .tc main_v12) = _; after_results; try rfl
  rw [e1]
  exact read_scales _ _ _ g T u

theorem staged_ks (g : Fin 60) (n : Fin 14) (i : Fin 64) (h : 64 * n.val + i.val < 896) :
    V m c main_v14 (ix3 g n i) = (kernelArgs m c).ks (ix3 (batch g) ⟨64 * n.val + i.val, h⟩ (inBatch g)) := by
  have e1 : V m c main_v14 = shapeCast S60x14x64 (transpose S2x30x896 [0, 2, 1] (m ((c : Thread nD τ).loc main_arg3))
      transposes_S2x896x30_S2x30x896_0_2_1) shapeCasts_S2x30x896_S60x14x64 := by
    show StableHlo.after hostOps0 _ (Proc.devRef .tc main_v14) = _; after_results; try rfl
  rw [e1]
  exact read_scalesChunk _ _ _ g n i

theorem staged_segk (b : Fin 2) (u : Fin 1) (T : Fin 896) :
    V m c main_v15 (ix3 b u T) = (kernelArgs m c).seg (ix2 b T) := by
  have e1 : V m c main_v15 = broadcastInDim S2x1x896 ![0, 2] bcast_S2x896_S2x1x896_0_2 (m ((c : Thread nD τ).loc main_arg7)) := by
    show StableHlo.after hostOps0 _ (Proc.devRef .tc main_v15) = _; after_results; try rfl
  rw [e1]
  refine congrArg (m ((c : Thread nD τ).loc main_arg7)) ?_
  funext d
  match d with
  | ⟨0, _⟩ => rfl
  | ⟨1, _⟩ => rfl

theorem staged_segq (b : Fin 2) (T : Fin 896) (u : Fin 1) :
    V m c main_v16 (ix3 b T u) = (kernelArgs m c).seg (ix2 b T) := by
  have e1 : V m c main_v16 = broadcastInDim S2x896x1 ![0, 1] bcast_S2x896_S2x896x1_0_1 (m ((c : Thread nD τ).loc main_arg7)) := by
    show StableHlo.after hostOps0 _ (Proc.devRef .tc main_v16) = _; after_results; try rfl
  rw [e1]
  refine congrArg (m ((c : Thread nD τ).loc main_arg7)) ?_
  funext d
  match d with
  | ⟨0, _⟩ => rfl
  | ⟨1, _⟩ => rfl

end Cert.Path
-- ==== Proof.KernelArray.lean ====
/- The kernel's result array: what grid point `g` stages is head `g`, and block `g` of the result is the means of that head's
   tokens. -/
module

public import proofs.«01_k».proof.Proof.Block
public import proofs.«01_k».proof.Proof.Words
public import proofs.«01_k».proof.Proof.Staged
public import proofs.«01_k».proof.Proof.KernelRun
public import Idealize.ShloMosaic.Lib.Pipeline.ValueKit

@[expose] public section

set_option maxRecDepth 16384

noncomputable section

open scoped BigOperators

namespace Cert.Path

open Idealize.ShloMosaic Idealize.ShloMosaic.TcCoe Idealize.SL.Sem Cert.KernelIdeal Cert.KernelIdeal.Gen

variable (m : (ℓ : Loc nD τ sig) → Buf (Elt Ideal) ℓ) (c : Dev nD)

/-- The body at grid point `t`: its staging buffers and the blocks in them. -/
def gridPoint (t : Fin cfg0.N) : Point Ideal where
  c := c
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a11 := scM0_0
  a12 := scM0_1
  a13 := scM0_2
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t

/-- The head of grid point `t`. -/
def headOf (t : Fin cfg0.N) : Fin 60 := ⟨t.val, t.isLt.trans_eq (by decide +kernel)⟩

/-! ### Where the blocks lie -/

theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])
theorem index3 : ∀ t : Fin cfg0.N, win0_3.index t = ![t.val, 0, 0] := (by decide +kernel : ∀ t : Fin grid0.N, win0_3.index t = ![t.val, 0, 0])
theorem index4 : ∀ t : Fin cfg0.N, win0_4.index t = ![0, t.val, 0] := (by decide +kernel : ∀ t : Fin grid0.N, win0_4.index t = ![0, t.val, 0])
theorem index5 : ∀ t : Fin cfg0.N, win0_5.index t = ![t.val, 0, 0] := (by decide +kernel : ∀ t : Fin grid0.N, win0_5.index t = ![t.val, 0, 0])
theorem index6 : ∀ t : Fin cfg0.N, win0_6.index t = ![t.val, 0, 0] := (by decide +kernel : ∀ t : Fin grid0.N, win0_6.index t = ![t.val, 0, 0])
theorem index7 : ∀ t : Fin cfg0.N, win0_7.index t = ![t.val / 30, 0, 0] := (by decide +kernel : ∀ t : Fin grid0.N, win0_7.index t = ![t.val / 30, 0, 0])
theorem index8 : ∀ t : Fin cfg0.N, win0_8.index t = ![t.val / 30, 0, 0] := (by decide +kernel : ∀ t : Fin grid0.N, win0_8.index t = ![t.val / 30, 0, 0])
theorem index9 : ∀ t : Fin cfg0.N, win0_9.index t = ![t.val, 0, 0] := (by decide +kernel : ∀ t : Fin grid0.N, win0_9.index t = ![t.val, 0, 0])

theorem block0 (t : Fin cfg0.N) (x : Fin 1) (y : Fin 896) (z : Fin 96) :
    iblk m c 0 t (ix3 x y z) = V m c main_v4 (ix3 (headOf t) y z) := by
  have h0 := x.isLt
  have h1 := y.isLt
  have h2 := z.isLt
  have hi := index0 t
  refine congrArg (V m c main_v4) ?_
  funext a
  match a with
  | ⟨0, _⟩ =>
    refine Fin.ext ((Pipeline.Window.rect_emb_val win0_0 t (ix3 x y z) 0).trans ?_)
    rw [hi]
    show t.val * 1 + x.val = t.val
    omega
  | ⟨1, _⟩ =>
    refine Fin.ext ((Pipeline.Window.rect_emb_val win0_0 t (ix3 x y z) 1).trans ?_)
    rw [hi]
    show 0 * 896 + y.val = y.val
    omega
  | ⟨2, _⟩ =>
    refine Fin.ext ((Pipeline.Window.rect_emb_val win0_0 t (ix3 x y z) 2).trans ?_)
    rw [hi]
    show 0 * 96 + z.val = z.val
    omega

theorem block1 (t : Fin cfg0.N) (x : Fin 1) (y : Fin 896) (z : Fin 96) :
    iblk m c 1 t (ix3 x y z) = V m c main_v6 (ix3 (headOf t) y z) := by
  have h0 := x.isLt
  have h1 := y.isLt
  have h2 := z.isLt
  have hi := index1 t
  refine congrArg (V m c main_v6) ?_
  funext a
  match a with
  | ⟨0, _⟩ =>
    refine Fin.ext ((Pipeline.Window.rect_emb_val win0_1 t (ix3 x y z) 0).trans ?_)
    rw [hi]
    show t.val * 1 + x.val = t.val
    omega
  | ⟨1, _⟩ =>
    refine Fin.ext ((Pipeline.Window.rect_emb_val win0_1 t (ix3 x y z) 1).trans ?_)
    rw [hi]
    show 0 * 896 + y.val = y.val
    omega
  | ⟨2, _⟩ =>
    refine Fin.ext ((Pipeline.Window.rect_emb_val win0_1 t (ix3 x y z) 2).trans ?_)
    rw [hi]
    show 0 * 96 + z.val = z.val
    omega

theorem block2 (t : Fin cfg0.N) (x : Fin 1) (y : Fin 896) (z : Fin 96) :
    iblk m c 2 t (ix3 x y z) = V m c main_v8 (ix3 (headOf t) y z) := by
  have h0 := x.isLt
  have h1 := y.isLt
  have h2 := z.isLt
  have hi := index2 t
  refine congrArg (V m c main_v8) ?_
  funext a
  match a with
  | ⟨0, _⟩ =>
    refine Fin.ext ((Pipeline.Window.rect_emb_val win0_2 t (ix3 x y z) 0).trans ?_)
    rw [hi]
    show t.val * 1 + x.val = t.val
    omega
  | ⟨1, _⟩ =>
    refine Fin.ext ((Pipeline.Window.rect_emb_val win0_2 t (ix3 x y z) 1).trans ?_)
    rw [hi]
    show 0 * 896 + y.val = y.val
    omega
  | ⟨2, _⟩ =>
    refine Fin.ext ((Pipeline.Window.rect_emb_val win0_2 t (ix3 x y z) 2).trans ?_)
    rw [hi]
    show 0 * 96 + z.val = z.val
    omega

theorem block3 (t : Fin cfg0.N) (x : Fin 1) (y : Fin 896) (z : Fin 96) :
    iblk m c 3 t (ix3 x y z) = V m c main_v10 (ix3 (headOf t) y z) := by
  have h0 := x.isLt
  have h1 := y.isLt
  have h2 := z.isLt
  have hi := index3 t
  refine congrArg (V m c main_v10) ?_
  funext a
  match a with
  | ⟨0, _⟩ =>
    refine Fin.ext ((Pipeline.Window.rect_emb_val win0_3 t (ix3 x y z) 0).trans ?_)
    rw [hi]
    show t.val * 1 + x.val = t.val
    omega
  | ⟨1, _⟩ =>
    refine Fin.ext ((Pipeline.Window.rect_emb_val win0_3 t (ix3 x y z) 1).trans ?_)
    rw [hi]
    show 0 * 896 + y.val = y.val
    omega
  | ⟨2, _⟩ =>
    refine Fin.ext ((Pipeline.Window.rect_emb_val win0_3 t (ix3 x y z) 2).trans ?_)
    rw [hi]
    show 0 * 96 + z.val = z.val
    omega

theorem block5 (t : Fin cfg0.N) (x : Fin 1) (y : Fin 896) (z : Fin 1) :
    iblk m c 5 t (ix3 x y z) = V m c main_v12 (ix3 (headOf t) y z) := by
  have h0 := x.isLt
  have h1 := y.isLt
  have h2 := z.isLt
  have hi := index5 t
  refine congrArg (V m c main_v12) ?_
  funext a
  match a with
  | ⟨0, _⟩ =>
    refine Fin.ext ((Pipeline.Window.rect_emb_val win0_5 t (ix3 x y z) 0).trans ?_)
    rw [hi]
    show t.val * 1 + x.val = t.val
    omega
  | ⟨1, _⟩ =>
    refine Fin.ext ((Pipeline.Window.rect_emb_val win0_5 t (ix3 x y z) 1).trans ?_)
    rw [hi]
    show 0 * 896 + y.val = y.val
    omega
  | ⟨2, _⟩ =>
    refine Fin.ext ((Pipeline.Window.rect_emb_val win0_5 t (ix3 x y z) 2).trans ?_)
    rw [hi]
    show 0 * 1 + z.val = z.val
    omega

theorem block6 (t : Fin cfg0.N) (x : Fin 1) (y : Fin 14) (z : Fin 64) :
    iblk m c 6 t (ix3 x y z) = V m c main_v14 (ix3 (headOf t) y z) := by
  have h0 := x.isLt
  have h1 := y.isLt
  have h2 := z.isLt
  have hi := index6 t
  refine congrArg (V m c main_v14) ?_
  funext a
  match a with
  | ⟨0, _⟩ =>
    refine Fin.ext ((Pipeline.Window.rect_emb_val win0_6 t (ix3 x y z) 0).trans ?_)
    rw [hi]
    show t.val * 1 + x.val = t.val
    omega
  | ⟨1, _⟩ =>
    refine Fin.ext ((Pipeline.Window.rect_emb_val win0_6 t (ix3 x y z) 1).trans ?_)
    rw [hi]
    show 0 * 14 + y.val = y.val
    omega
  | ⟨2, _⟩ =>
    refine Fin.ext ((Pipeline.Window.rect_emb_val win0_6 t (ix3 x y z) 2).trans ?_)
    rw [hi]
    show 0 * 64 + z.val = z.val
    omega

theorem block7 (t : Fin cfg0.N) (x : Fin 1) (y : Fin 1) (z : Fin 896) :
    iblk m c 7 t (ix3 x y z) = V m c main_v15 (ix3 (batch (headOf t)) y z) := by
  have h0 := x.isLt
  have h1 := y.isLt
  have h2 := z.isLt
  have hi := index7 t
  refine congrArg (V m c main_v15) ?_
  funext a
  match a with
  | ⟨0, _⟩ =>
    refine Fin.ext ((Pipeline.Window.rect_emb_val win0_7 t (ix3 x y z) 0).trans ?_)
    rw [hi]
    show t.val / 30 * 1 + x.val = t.val / 30
    omega
  | ⟨1, _⟩ =>
    refine Fin.ext ((Pipeline.Window.rect_emb_val win0_7 t (ix3 x y z) 1).trans ?_)
    rw [hi]
    show 0 * 1 + y.val = y.val
    omega
  | ⟨2, _⟩ =>
    refine Fin.ext ((Pipeline.Window.rect_emb_val win0_7 t (ix3 x y z) 2).trans ?_)
    rw [hi]
    show 0 * 896 + z.val = z.val
    omega

theorem block8 (t : Fin cfg0.N) (x : Fin 1) (y : Fin 896) (z : Fin 1) :
    iblk m c 8 t (ix3 x y z) = V m c main_v16 (ix3 (batch (headOf t)) y z) := by
  have h0 := x.isLt
  have h1 := y.isLt
  have h2 := z.isLt
  have hi := index8 t
  refine congrArg (V m c main_v16) ?_
  funext a
  match a with
  | ⟨0, _⟩ =>
    refine Fin.ext ((Pipeline.Window.rect_emb_val win0_8 t (ix3 x y z) 0).trans ?_)
    rw [hi]
    show t.val / 30 * 1 + x.val = t.val / 30
    omega
  | ⟨1, _⟩ =>
    refine Fin.ext ((Pipeline.Window.rect_emb_val win0_8 t (ix3 x y z) 1).trans ?_)
    rw [hi]
    show 0 * 896 + y.val = y.val
    omega
  | ⟨2, _⟩ =>
    refine Fin.ext ((Pipeline.Window.rect_emb_val win0_8 t (ix3 x y z) 2).trans ?_)
    rw [hi]
    show 0 * 1 + z.val = z.val
    omega

theorem block4 (t : Fin cfg0.N) (x : Fin 32) (y : Fin 16) (z : Fin 128) (h : 16 * (headOf t).val + y.val < 960) :
    iblk m c 4 t (ix3 x y z) = V m c main_arg5 (ix3 x ⟨16 * (headOf t).val + y.val, h⟩ z) := by
  have h0 := x.isLt
  have h1 := y.isLt
  have h2 := z.isLt
  have hi := index4 t
  refine congrArg (V m c main_arg5) ?_
  funext a
  match a with
  | ⟨0, _⟩ =>
    refine Fin.ext ((Pipeline.Window.rect_emb_val win0_4 t (ix3 x y z) 0).trans ?_)
    rw [hi]
    show 0 * 32 + x.val = x.val
    omega
  | ⟨1, _⟩ =>
    refine Fin.ext ((Pipeline.Window.rect_emb_val win0_4 t (ix3 x y z) 1).trans ?_)
    rw [hi]
    show t.val * 16 + y.val = 16 * t.val + y.val
    omega
  | ⟨2, _⟩ =>
    refine Fin.ext ((Pipeline.Window.rect_emb_val win0_4 t (ix3 x y z) 2).trans ?_)
    rw [hi]
    show 0 * 128 + z.val = z.val
    omega

section
variable (t : Fin cfg0.N)

theorem held_q : ∀ (u : Fin 1) T e, (gridPoint m c t).x0 (ix3 u T e) = (kernelArgs m c).q (ix4 (batch (headOf t)) T (inBatch (headOf t)) e) :=
  fun u T e => (block0 m c t u T e).trans (staged_q m c _ T e)
theorem held_k : ∀ (u : Fin 1) T e, (gridPoint m c t).x1 (ix3 u T e) = (kernelArgs m c).k (ix4 (batch (headOf t)) T (inBatch (headOf t)) e) :=
  fun u T e => (block1 m c t u T e).trans (staged_k m c _ T e)
theorem held_w : ∀ (u : Fin 1) T e, (gridPoint m c t).x2 (ix3 u T e) = (kernelArgs m c).w (ix4 (batch (headOf t)) T (inBatch (headOf t)) e) :=
  fun u T e => (block2 m c t u T e).trans (staged_w m c _ T e)
theorem held_v : ∀ (u : Fin 1) T e, (gridPoint m c t).x3 (ix3 u T e) = (kernelArgs m c).v (ix4 (batch (headOf t)) T (inBatch (headOf t)) e) :=
  fun u T e => (block3 m c t u T e).trans (staged_v m c _ T e)
theorem held_b : ∀ r (n : Fin 16) i (h : 16 * (headOf t).val + n.val < 960), (gridPoint m c t).x4 (ix3 r n i) = (kernelArgs m c).b (ix3 r ⟨16 * (headOf t).val + n.val, h⟩ i) :=
  fun r n i h => (block4 m c t r n i h).trans (congrFun (V_main_arg5 m c) _)
theorem held_qs : ∀ (u : Fin 1) T (x : Fin 1), (gridPoint m c t).x5 (ix3 u T x) = (kernelArgs m c).qs (ix3 (batch (headOf t)) T (inBatch (headOf t))) :=
  fun u T x => (block5 m c t u T x).trans (staged_qs m c _ T x)
theorem held_ks : ∀ (u : Fin 1) (n : Fin 14) (i : Fin 64) (h : 64 * n.val + i.val < 896), (gridPoint m c t).x6 (ix3 u n i) = (kernelArgs m c).ks (ix3 (batch (headOf t)) ⟨64 * n.val + i.val, h⟩ (inBatch (headOf t))) :=
  fun u n i h => (block6 m c t u n i).trans (staged_ks m c _ n i h)
theorem held_segk : ∀ (u x : Fin 1) T, (gridPoint m c t).x7 (ix3 u x T) = (kernelArgs m c).seg (ix2 (batch (headOf t)) T) :=
  fun u x T => (block7 m c t u x T).trans (staged_segk m c _ x T)
theorem held_segq : ∀ (u : Fin 1) T (x : Fin 1), (gridPoint m c t).x8 (ix3 u T x) = (kernelArgs m c).seg (ix2 (batch (headOf t)) T) :=
  fun u T x => (block8 m c t u T x).trans (staged_segq m c _ T x)

end

/-- The blocks of grid point `t` are head `t`'s. -/
theorem staged (t : Fin cfg0.N) : (gridPoint m c t).Block (kernelArgs m c) (headOf t) where
  q := held_q m c t
  k := held_k m c t
  w := held_w m c t
  v := held_v m c t
  b := held_b m c t
  qs := held_qs m c t
  ks := held_ks m c t
  segk := held_segk m c t
  segq := held_segq m c t

/-- What the body leaves in its output block. -/
theorem out_block (P : Point Ideal) (i : grid0.Coords) (a10 : Memref sig .tc .vmem S1x896x96 .bf16) (h10 : a10.IsWhole)
    (h11 : P.a11.IsWhole) (h12 : P.a12.IsWhole) (h13 : P.a13.IsWhole) :
    out0_A_9 P.c i P.a1 P.h1 P.a2 P.h2 P.a3 P.h3 P.a4 P.h4 P.a5 P.h5 P.a6 P.h6 P.a7 P.h7 P.a8 P.h8 P.a9 P.h9 a10 h10
      P.a11 h11 P.a12 h12 P.a13 h13 P.x0 P.x1 P.x2 P.x3 P.x4 P.x5 P.x6 P.x7 P.x8 = View.canon (P.outStores 14 (le_refl 14)) := by
  unfold out0_A_9
  rw [P.pieces i a10 h10 h11 h12 h13]
  exact View.read_writes_junk_eq_canon _ _

/-- Block `t` of the result array is what grid point `t` computes of its chunks. -/
theorem result_block (t : Fin cfg0.N) (k : ℕ) (hk : k < 14) (i : Fin 64) (T : Fin 896) (e : Fin 96) (hT : T.val = 64 * k + i.val) :
    (dats m 0 c).arrAt 9 cfg0.N (ix3 (headOf t) T e) = (gridPoint m c t).result k hk (ix3 0 i e) := by
  have hi := index9 t
  have he : ((cfg0.win 9).blk t).view.emb (ix3 0 T e) = ix3 (headOf t) T e := by
    funext a
    match a with
    | ⟨0, _⟩ =>
      refine Fin.ext ((Pipeline.Window.rect_emb_val win0_9 t (ix3 0 T e) 0).trans ?_)
      rw [hi]
      show t.val * 1 + 0 = t.val
      omega
    | ⟨1, _⟩ =>
      refine Fin.ext ((Pipeline.Window.rect_emb_val win0_9 t (ix3 0 T e) 1).trans ?_)
      rw [hi]
      show 0 * 896 + T.val = T.val
      omega
    | ⟨2, _⟩ =>
      refine Fin.ext ((Pipeline.Window.rect_emb_val win0_9 t (ix3 0 T e) 2).trans ?_)
      rw [hi]
      show 0 * 96 + e.val = e.val
      omega
  refine (congrArg ((dats m 0 c).arrAt 9 cfg0.N) he.symm).trans ?_
  refine (congrFun (Run.blocks m c t (flush0_9 t)) (ix3 0 T e)).trans ?_
  rw [Run.flushed]
  refine Eq.trans ?_ (Point.canon_outStores (gridPoint m c t) k hk 0 i T e hT 14 (le_refl 14) hk)
  exact congrFun (out_block (gridPoint m c t) (grid0.coords t) (ms0_9 t) (hs0_9 t) (Memref.isWhole_whole _) (Memref.isWhole_whole _)
    (Memref.isWhole_whole _)) (ix3 0 T e)

/-- The result array, entry by entry: the softmax mean, over the keys up to the end of the token's chunk. -/
theorem kernel_entry (ok : (kernelArgs m c).Ok) (g : Fin 60) (k : ℕ) (hk : k < 14) (i : Fin 64) (T : Fin 896) (e : Fin 96) (hT : T.val = 64 * k + i.val) :
    (dats m 0 c).arrAt 9 cfg0.N (ix3 g T e) = Ideal.div
      (∑ j ∈ Finset.range (64 * (k + 1)), Ideal.exp2 (Point.sc ((kernelArgs m c).head g) ((kernelArgs m c).segment g) k i j
        - (Finset.range (64 * (k + 1))).sup (Point.sc ((kernelArgs m c).head g) ((kernelArgs m c).segment g) k i)) * (kernelArgs m c).value g j e)
      (∑ j ∈ Finset.range (64 * (k + 1)), Ideal.exp2 (Point.sc ((kernelArgs m c).head g) ((kernelArgs m c).segment g) k i j
        - (Finset.range (64 * (k + 1))).sup (Point.sc ((kernelArgs m c).head g) ((kernelArgs m c).segment g) k i))) := by
  have hg : headOf ⟨g.val, g.isLt.trans_eq (by decide +kernel)⟩ = g := Fin.ext rfl
  have h := (result_block m c ⟨g.val, g.isLt.trans_eq (by decide +kernel)⟩ k hk i T e hT).trans
    (Point.reads_result (Point.holds (staged m c ⟨g.val, g.isLt.trans_eq (by decide +kernel)⟩) ok) k hk 0 i e)
  rw [hg] at h
  exact h

end Cert.Path
-- ==== Proof.Slab.lean ====
/- Stacks of matrices, one per head, read a head at a time. -/
module

public import proofs.«01_k».proof.Proof.Soft
public import Idealize.ShloMosaic.Lib.Pointwise.Contract

@[expose] public section

set_option maxRecDepth 16384

noncomputable section

open scoped BigOperators

namespace Cert.Path

open Idealize Idealize.ShloMosaic

/-- The matrix of head `g`. -/
def slab {G M N : ℕ} {φ : FTy} (g : Fin G) (v : FVec Ideal ⟨3, ![G, M, N]⟩ φ) : FVec Ideal ⟨2, ![M, N]⟩ φ := fun j => v (ix3 g (j 0) (j 1))

section
variable {G M N K : ℕ} {φ ψ : FTy} {sl sr so : Shape}

/-- A product over one contracted axis, read at an index where the operands are known. -/
theorem reads_contract (d : DotDims sl sr so) {a : Fin sl.rank} (hc : d.lhsContracting = [a]) (hK : sl.size a = K)
    (v : FVec Ideal sl φ) (w : FVec Ideal sr ψ) (j : so.Idx) (L : Fin K → sl.Idx) (R : Fin K → sr.Idx)
    (hL : ∀ k, Shape.Idx.norm (d.lhsIdx j (d.contrIdx₁ hc hK k)) = L k) (hR : ∀ k, Shape.Idx.norm (d.rhsIdx j (d.contrIdx₁ hc hK k)) = R k)
    (f f' : ℕ → EReal) (hv : ∀ k, v (L k) = f k.val) (hw : ∀ k, w (R k) = f' k.val) :
    matmul d none v w (constant so .f32 0x00000000#32) j = ∑ k ∈ Finset.range K, f k * f' k := by
  rw [Finset.sum_range]
  refine (Ideal.matmul_apply₁_of d hc hK v w _ j L R hL hR).trans ?_
  refine (congrArg₂ (· + ·) (show _ = (0 : EReal) from Ideal.ofBits_zero_f32) (Finset.sum_congr rfl fun k _ => ?_)).trans (zero_add _)
  exact congrArg₂ (· * ·) (hv k) (hw k)

/-- The same of real operands. -/
theorem reals_contract (d : DotDims sl sr so) {a : Fin sl.rank} (hc : d.lhsContracting = [a]) (hK : sl.size a = K)
    (v : FVec Ideal sl φ) (w : FVec Ideal sr ψ) (j : so.Idx) (L : Fin K → sl.Idx) (R : Fin K → sr.Idx)
    (hL : ∀ k, Shape.Idx.norm (d.lhsIdx j (d.contrIdx₁ hc hK k)) = L k) (hR : ∀ k, Shape.Idx.norm (d.rhsIdx j (d.contrIdx₁ hc hK k)) = R k)
    (f f' : ℕ → ℝ) (hv : ∀ k, v (L k) = ((f k.val : ℝ) : EReal)) (hw : ∀ k, w (R k) = ((f' k.val : ℝ) : EReal)) :
    matmul d none v w (constant so .f32 0x00000000#32) j = ((∑ k ∈ Finset.range K, f k * f' k : ℝ) : EReal) := by
  rw [coe_sum]
  exact (reads_contract d hc hK v w j L R hL hR (fun k => f k) (fun k => f' k) hv hw).trans
    (Finset.sum_congr rfl fun k _ => (EReal.coe_mul _ _).symm)

/-- The rows from `t` of every head. -/
theorem Reals.rowsOf {M' t : ℕ} {g : Fin G} {v : FVec Ideal ⟨3, ![G, M, N]⟩ φ} {f : ℕ → ℕ → ℝ} (h : Reals (slab g v) f)
    (hs : (⟨3, ![G, M, N]⟩ : Shape).Slices ![0, t, 0] ⟨3, ![G, M', N]⟩) :
    Reals (slab g (extractStridedSlice ⟨3, ![G, M', N]⟩ ![0, t, 0] v hs)) fun i j => f (t + i) j := fun i j => by
  refine Eq.trans (congrArg v ?_) (h ⟨t + i.val, Nat.lt_of_lt_of_le (Nat.add_lt_add_left i.isLt _) (hs.2 1)⟩ j)
  funext d
  match d with
  | ⟨0, _⟩ => exact Fin.ext (Nat.zero_add _)
  | ⟨1, _⟩ => rfl
  | ⟨2, _⟩ => exact Fin.ext (Nat.zero_add _)

/-- A column of every head repeated along the rows. -/
theorem colsOf {α : Type} (v : (⟨3, ![G, M, 1]⟩ : Shape).Idx → α) (hG : G ≠ 1) (hM : M ≠ 1)
    (hs : (⟨3, ![G, M, 1]⟩ : Shape).Broadcasts ⟨3, ![G, M, N]⟩) (g : Fin G) (i : Fin M) (j : Fin N) :
    broadcastTo ⟨3, ![G, M, N]⟩ v hs (ix3 g i j) = v (ix3 g i 0) := by
  refine congrArg v ?_
  funext d
  match d with
  | ⟨0, _⟩ => exact (dif_neg hG).trans rfl
  | ⟨1, _⟩ => exact (dif_neg hM).trans rfl
  | ⟨2, _⟩ => rfl

/-- A row of every head repeated along the columns. -/
theorem rowsAll {α : Type} (v : (⟨3, ![G, 1, N]⟩ : Shape).Idx → α) (hG : G ≠ 1) (hN : N ≠ 1)
    (hs : (⟨3, ![G, 1, N]⟩ : Shape).Broadcasts ⟨3, ![G, M, N]⟩) (g : Fin G) (i : Fin M) (j : Fin N) :
    broadcastTo ⟨3, ![G, M, N]⟩ v hs (ix3 g i j) = v (ix3 g 0 j) := by
  refine congrArg v ?_
  funext d
  match d with
  | ⟨0, _⟩ => exact (dif_neg hG).trans rfl
  | ⟨1, _⟩ => rfl
  | ⟨2, _⟩ => exact (dif_neg hN).trans rfl

/-- A matrix shared by all heads. -/
theorem shared {α : Type} (c : (⟨2, ![M, N]⟩ : Shape).Idx → α) (hc : (⟨2, ![M, N]⟩ : Shape).ShapeCasts ⟨3, ![1, M, N]⟩)
    (hs : (⟨3, ![1, M, N]⟩ : Shape).Broadcasts ⟨3, ![G, M, N]⟩) (hM : M ≠ 1) (hN : N ≠ 1) (g : Fin G) (i : Fin M) (j : Fin N) :
    broadcastTo ⟨3, ![G, M, N]⟩ (shapeCast ⟨3, ![1, M, N]⟩ c hc) hs (ix3 g i j) = c (ix2 i j) := by
  refine Eq.trans (b := shapeCast ⟨3, ![1, M, N]⟩ c hc (ix3 0 i j)) (congrArg (shapeCast ⟨3, ![1, M, N]⟩ c hc) ?_) ?_
  · funext d
    match d with
    | ⟨0, _⟩ => rfl
    | ⟨1, _⟩ => exact (dif_neg hM).trans rfl
    | ⟨2, _⟩ => exact (dif_neg hN).trans rfl
  · refine congrArg c (Shape.reshapeEquiv_eq_of_rowMajor _ ?_)
    rw [rowMajor_val2 _ N rfl, rowMajor_val3 (d := ![1, M, N]) _ (M * N) N rfl rfl]
    show i.val * N + j.val = 0 * (M * N) + i.val * N + j.val
    omega

/-- A choice between a real matrix of every head and zero. -/
theorem Reals.keeps {g : Fin G} {x : FVec Ideal ⟨3, ![G, M, N]⟩ .f32} {f : ℕ → ℕ → ℝ} (h : Reals (slab g x) f)
    {c : IVec ⟨3, ![G, M, N]⟩ 1} {p : ℕ → ℕ → Prop} [∀ i j, Decidable (p i j)]
    (hc : ∀ (i : Fin M) (j : Fin N), c (ix3 g i j) = 1#1 ↔ p i j) :
    Reals (slab g (select c x (broadcast ⟨3, ![G, M, N]⟩ (Scalar.ofBits .f32 0x00000000#32)))) fun i j => if p i j then f i j else 0 := fun i j => by
  show (if c (ix3 g i j) = 1#1 then x (ix3 g i j) else Ideal.ofBits .f32 0x00000000#32) = ((if p i j then f i j else 0 : ℝ) : EReal)
  by_cases hp : p i j
  · rw [if_pos ((hc i j).mpr hp), if_pos hp]; exact h i j
  · rw [if_neg (fun hh => hp ((hc i j).mp hh)), if_neg hp, Ideal.ofBits_zero_f32, EReal.coe_zero]

/-- A choice between two real matrices of every head. -/
theorem Reals.choose {g : Fin G} {x y : FVec Ideal ⟨3, ![G, M, N]⟩ .f32} {f f' : ℕ → ℕ → ℝ} (h : Reals (slab g x) f) (h' : Reals (slab g y) f')
    {c : IVec ⟨3, ![G, M, N]⟩ 1} {p : ℕ → ℕ → Prop} [∀ i j, Decidable (p i j)]
    (hc : ∀ (i : Fin M) (j : Fin N), c (ix3 g i j) = 1#1 ↔ p i j) :
    Reals (slab g (select c x y)) fun i j => if p i j then f i j else f' i j := fun i j => by
  show (if c (ix3 g i j) = 1#1 then x (ix3 g i j) else y (ix3 g i j)) = ((if p i j then f i j else f' i j : ℝ) : EReal)
  by_cases hp : p i j
  · rw [if_pos ((hc i j).mpr hp), if_pos hp]; exact h i j
  · rw [if_neg (fun hh => hp ((hc i j).mp hh)), if_neg hp]; exact h' i j

theorem Reals.subs {g : Fin G} {v w : FVec Ideal ⟨3, ![G, M, N]⟩ φ} {f f' : ℕ → ℕ → ℝ} (h : Reals (slab g v) f) (h' : Reals (slab g w) f') :
    Reals (slab g (ShloMosaic.subf v w)) fun i j => f i j - f' i j := Reals.subf h h'
theorem Reals.muls {g : Fin G} {v w : FVec Ideal ⟨3, ![G, M, N]⟩ φ} {f f' : ℕ → ℕ → ℝ} (h : Reals (slab g v) f) (h' : Reals (slab g w) f') :
    Reals (slab g (ShloMosaic.mulf v w)) fun i j => f i j * f' i j := Reals.mulf h h'
theorem Reals.truncs {g : Fin G} {v : FVec Ideal ⟨3, ![G, M, N]⟩ φ} {f : ℕ → ℕ → ℝ} (h : Reals (slab g v) f) (hb : ψ.bits < φ.bits) :
    Reals (slab g (ShloMosaic.truncf ψ v hb)) f := h

theorem Reals.cols3 {g : Fin G} {v : FVec Ideal ⟨3, ![G, M, 1]⟩ φ} {f : ℕ → ℕ → ℝ} (h : Reals (slab g v) f) (hG : G ≠ 1) (hM : M ≠ 1)
    (hs : (⟨3, ![G, M, 1]⟩ : Shape).Broadcasts ⟨3, ![G, M, N]⟩) : Reals (slab g (broadcastTo ⟨3, ![G, M, N]⟩ v hs)) fun i _ => f i 0 :=
  fun i j => (colsOf v hG hM hs g i j).trans (h i 0)
theorem Reals.rows3 {g : Fin G} {v : FVec Ideal ⟨3, ![G, 1, N]⟩ φ} {f : ℕ → ℕ → ℝ} (h : Reals (slab g v) f) (hG : G ≠ 1) (hN : N ≠ 1)
    (hs : (⟨3, ![G, 1, N]⟩ : Shape).Broadcasts ⟨3, ![G, M, N]⟩) : Reals (slab g (broadcastTo ⟨3, ![G, M, N]⟩ v hs)) fun _ j => f 0 j :=
  fun i j => (rowsAll v hG hN hs g i j).trans (h 0 j)

end

/-! ### Reductions of every head -/

section
variable {G M N : ℕ} {g : Fin G} {v : FVec Ideal ⟨3, ![G, M, N]⟩ .f32} {f : ℕ → ℕ → EReal} (h : Reads (slab g v) f)

include h in
theorem sums3 (hr : (⟨3, ![G, M, N]⟩ : Shape).Reduces [2] ⟨2, ![G, M]⟩)
    (hφ : FKind.Formats .f32) (ha : 0x00000000#32 = FKind.add.neutral .f32 hφ) (i : Fin M) :
    multiReduction .add [2] ⟨2, ![G, M]⟩ v 0x00000000#32 hr hφ ha (ix2 g i) = ∑ k ∈ Finset.range N, f i k := by
  rw [Finset.sum_range]
  refine (Ideal.multiReduction_add_single v _ hr hφ ha (ix2 g i)).trans (Finset.sum_congr rfl fun k _ => ?_)
  refine Eq.trans (congrArg v ?_) (h i k)
  funext d; match d with | ⟨0, _⟩ => rfl | ⟨1, _⟩ => rfl | ⟨2, _⟩ => rfl

include h in
theorem maxima3 (hr : (⟨3, ![G, M, N]⟩ : Shape).Reduces [2] ⟨2, ![G, M]⟩)
    (hφ : FKind.Formats .f32) (ha : 0xFF800000#32 = FKind.maximumf.neutral .f32 hφ) (i : Fin M) :
    multiReduction .maximumf [2] ⟨2, ![G, M]⟩ v 0xFF800000#32 hr hφ ha (ix2 g i) = (Finset.range N).sup (f i) := by
  refine (Ideal.multiReduction_maximumf_single v _ hr hφ ha (ix2 g i)).trans ?_
  have e : (v ∘ hr.lift (ix2 g i)) = fun k : Fin N => f i k := funext fun k => by
    refine Eq.trans (congrArg v ?_) (h i k)
    funext d; match d with | ⟨0, _⟩ => rfl | ⟨1, _⟩ => rfl | ⟨2, _⟩ => rfl
  rw [e]
  exact fold_range _

theorem column3 {α : Type} (x : (⟨2, ![G, M]⟩ : Shape).Idx → α) (hc : (⟨2, ![G, M]⟩ : Shape).ShapeCasts ⟨3, ![G, M, 1]⟩) (i : Fin M) (u : Fin 1) :
    shapeCast ⟨3, ![G, M, 1]⟩ x hc (ix3 g i u) = x (ix2 g i) := by
  refine congrArg x (Shape.reshapeEquiv_eq_of_rowMajor _ ?_)
  rw [rowMajor_val2 _ M rfl, rowMajor_val3 (d := ![G, M, 1]) _ (M * 1) 1 rfl rfl]
  have := u.isLt
  show g.val * M + i.val = g.val * (M * 1) + i.val * 1 + u.val
  rw [Nat.mul_one, Nat.mul_one]; omega

end

/-! ### Products of every head -/

section
variable {G M N K : ℕ} {φ ψ : FTy} {g : Fin G} {f f' : ℕ → ℕ → ℝ}

theorem Reals.dot22 (d : DotDims ⟨3, ![G, M, K]⟩ ⟨3, ![G, N, K]⟩ ⟨3, ![G, M, N]⟩) (hc : d.lhsContracting = [2])
    {v : FVec Ideal ⟨3, ![G, M, K]⟩ φ} {w : FVec Ideal ⟨3, ![G, N, K]⟩ ψ} (hv : Reals (slab g v) f) (hw : Reals (slab g w) f')
    (hL : ∀ i j k, Shape.Idx.norm (d.lhsIdx (ix3 g i j) (d.contrIdx₁ hc rfl k)) = ix3 g i k)
    (hR : ∀ i j k, Shape.Idx.norm (d.rhsIdx (ix3 g i j) (d.contrIdx₁ hc rfl k)) = ix3 g j k) :
    Reals (slab g (ShloMosaic.matmul d none v w (constant ⟨3, ![G, M, N]⟩ .f32 0x00000000#32))) fun i j => ∑ k ∈ Finset.range K, f i k * f' j k := fun i j =>
  reals_contract d hc rfl v w (ix3 g i j) (fun k : Fin K => ix3 g i k) (fun k : Fin K => ix3 g j k) (hL i j) (hR i j) (f i) (f' j) (hv i) (hw j)

theorem Reals.dot21 (d : DotDims ⟨3, ![G, M, K]⟩ ⟨3, ![G, K, N]⟩ ⟨3, ![G, M, N]⟩) (hc : d.lhsContracting = [2])
    {v : FVec Ideal ⟨3, ![G, M, K]⟩ φ} {w : FVec Ideal ⟨3, ![G, K, N]⟩ ψ} (hv : Reals (slab g v) f) (hw : Reals (slab g w) f')
    (hL : ∀ i j k, Shape.Idx.norm (d.lhsIdx (ix3 g i j) (d.contrIdx₁ hc rfl k)) = ix3 g i k)
    (hR : ∀ i j k, Shape.Idx.norm (d.rhsIdx (ix3 g i j) (d.contrIdx₁ hc rfl k)) = ix3 g k j) :
    Reals (slab g (ShloMosaic.matmul d none v w (constant ⟨3, ![G, M, N]⟩ .f32 0x00000000#32))) fun i j => ∑ k ∈ Finset.range K, f i k * f' k j := fun i j =>
  reals_contract d hc rfl v w (ix3 g i j) (fun k : Fin K => ix3 g i k) (fun k : Fin K => ix3 g k j) (hL i j) (hR i j) (f i) (fun k => f' k j) (hv i)
    fun k => hw k j

theorem Reals.dot11 (d : DotDims ⟨3, ![G, K, M]⟩ ⟨3, ![G, K, N]⟩ ⟨3, ![G, M, N]⟩) (hc : d.lhsContracting = [1])
    {v : FVec Ideal ⟨3, ![G, K, M]⟩ φ} {w : FVec Ideal ⟨3, ![G, K, N]⟩ ψ} (hv : Reals (slab g v) f) (hw : Reals (slab g w) f')
    (hL : ∀ i j k, Shape.Idx.norm (d.lhsIdx (ix3 g i j) (d.contrIdx₁ hc rfl k)) = ix3 g k i)
    (hR : ∀ i j k, Shape.Idx.norm (d.rhsIdx (ix3 g i j) (d.contrIdx₁ hc rfl k)) = ix3 g k j) :
    Reals (slab g (ShloMosaic.matmul d none v w (constant ⟨3, ![G, M, N]⟩ .f32 0x00000000#32))) fun i j => ∑ k ∈ Finset.range K, f k i * f' k j := fun i j =>
  reals_contract d hc rfl v w (ix3 g i j) (fun k : Fin K => ix3 g k i) (fun k : Fin K => ix3 g k j) (hL i j) (hR i j) (fun k => f k i) (fun k => f' k j)
    (fun k => hv k i) fun k => hw k j

end

end Cert.Path
-- ==== Proof.Written.lean ====
/- The reference, written once for all chunks: the functions below are the operations its body prints, in its order, for all
   heads at once, with the arrays it loads as arguments. -/
module

public import proofs.«01_k».proof.Proof.Gen.ReferenceIdeal.Frame

@[expose] public section

set_option maxRecDepth 16384

noncomputable section

namespace Cert.Path

open Idealize.ShloMosaic Cert.ReferenceIdeal Cert.ReferenceIdeal.Facts₀ Cert.ReferenceIdeal.Facts

/-- The arrays the reference loads. -/
structure Given (F : FTy → Type) where
  q : Vec F S2x896x30x96 .fp8e4m3
  qs : Vec F S2x896x30 .f32
  k : Vec F S2x896x30x96 .fp8e4m3
  ks : Vec F S2x896x30 .f32
  w : Vec F S2x896x30x96 .fp8e4m3
  b : Vec F S32x960x128 .f32
  v : Vec F S2x896x30x96 .bf16
  seg : Vec F S2x896 .i32

namespace Given

/-! ### Facts about the shapes of chunk `n` -/

theorem rowsOf {n m : ℕ} (h : n < 14) : (⟨3, ![60, 896, m]⟩ : Shape).Slices ![0, 64 * n, 0] ⟨3, ![60, 64, m]⟩ :=
  ⟨rfl, fun d => match d with
    | ⟨0, _⟩ => le_refl 60
    | ⟨1, _⟩ => (show 64 * n + 64 ≤ 896 by omega)
    | ⟨2, _⟩ => le_of_eq (Nat.zero_add m)⟩

theorem inverseOf {n : ℕ} (h : n < 14) : S60x16x64x64.Slices ![0, n, 0, 0] S60x1x64x64 :=
  ⟨rfl, fun d => match d with
    | ⟨0, _⟩ => le_refl 60
    | ⟨1, _⟩ => (show n + 1 ≤ 16 by omega)
    | ⟨2, _⟩ => le_refl 64
    | ⟨3, _⟩ => le_refl 64⟩

variable {F : FTy → Type} [FloatOps F] [Named F] (G : Given F)

/-! ### The arrays, head by head -/

/-- The values of an array of codes. -/
def heads (x : Vec F S2x896x30x96 .fp8e4m3) : FVec F S60x896x96 .f32 :=
  shapeCast S60x896x96 (transpose S2x30x896x96 [0, 2, 1, 3]
    (extf .f32 (shapeCast S2x896x30x96 x shapeCasts_S2x896x30x96_S2x896x30x96 : FVec F S2x896x30x96 .fp8e4m3) bitsLt_fp8e4m3_f32)
    transposes_S2x896x30x96_p0_2_1_3_S2x30x896x96) shapeCasts_S2x30x896x96_S60x896x96

/-- The scales as a column of each head. -/
def scales (x : Vec F S2x896x30 .f32) : FVec F S60x896x1 .f32 :=
  shapeCast S60x896x1 (transpose S2x30x896 [0, 2, 1] x transposes_S2x896x30_p0_2_1_S2x30x896) shapeCasts_S2x30x896_S60x896x1

/-- The scales as a row of each head. -/
def scalesRow (x : Vec F S2x896x30 .f32) : FVec F S60x1x896 .f32 :=
  shapeCast S60x1x896 (transpose S2x30x896 [0, 2, 1] x transposes_S2x896x30_p0_2_1_S2x30x896) shapeCasts_S2x30x896_S60x1x896

/-- The inverses of each head's chunks. -/
def inverses : FVec F S60x16x64x64 .f32 :=
  shapeCast S60x16x64x64 (transpose S60x16x2x32x64 [1, 2, 3, 0, 4]
    (shapeCast S32x60x16x2x64 G.b shapeCasts_S32x960x128_S32x60x16x2x64) transposes_S32x60x16x2x64_p1_2_3_0_4_S60x16x2x32x64)
    shapeCasts_S60x16x2x32x64_S60x16x64x64

/-- The keys as they are given. -/
def keys0 : FVec F S60x896x96 .f32 :=
  mulf (heads G.k) (broadcastTo S60x896x96 (scales G.ks) broadcasts_S60x896x1_S60x896x96)

/-- The token's number inside the chunk, along the rows. -/
def token : IVec S64x896 32 := iota .tc S64x896 32 [0] iota_S64x896_d0_w32
/-- The key's number, along the columns. -/
def key : IVec S64x896 32 := iota .tc S64x896 32 [1] iota_S64x896_d1_w32
/-- Up to the own token. -/
def causal : IVec S64x64 1 :=
  cmpi .sge (iota .tc S64x64 32 [0] iota_S64x64_d0_w32) (iota .tc S64x64 32 [1] iota_S64x64_d1_w32)

/-! ### Chunk `n`, from the keys `y` before it -/

section
variable (n : ℕ) (h : n < 14) (y : FVec F S60x896x96 .f32)

def qAt : FVec F S60x64x96 .f32 := extractStridedSlice S60x64x96 ![0, 64 * n, 0] (heads G.q) (rowsOf h)
def wAt : FVec F S60x64x96 .f32 := extractStridedSlice S60x64x96 ![0, 64 * n, 0] (heads G.w) (rowsOf h)
def qsAt : FVec F S60x64x1 .f32 := extractStridedSlice S60x64x1 ![0, 64 * n, 0] (scales G.qs) (rowsOf h)
def inverse : FVec F S60x64x64 .f32 :=
  shapeCast S60x64x64 (extractStridedSlice S60x1x64x64 ![0, n, 0, 0] G.inverses (inverseOf h)) shapeCasts_S60x1x64x64_S60x64x64

/-- The chunk's reflection vectors against the keys before their own token. -/
def against : FVec F S60x64x896 .f32 :=
  select (broadcastTo S60x64x896 (shapeCast S1x64x896 (cmpi .sgt (addi token (broadcast S64x896 (BitVec.ofNat 32 (64 * n)))) key)
      shapeCasts_S64x896_S1x64x896) broadcasts_S1x64x896_S60x64x896)
    (matmul dot_S60x64x96_S60x896x96_S60x64x896_2_2_1_1_0_0 none (G.wAt n h) y (constant S60x64x896 .f32 0x00000000#32))
    (broadcast S60x64x896 (Scalar.ofBits .f32 0x00000000#32 : F .f32))

/-- The scaled queries against the reflection vectors up to their own. -/
def qw : FVec F S60x64x64 .f32 :=
  select (broadcastTo S60x64x64 (shapeCast S1x64x64 causal shapeCasts_S64x64_S1x64x64) broadcasts_S1x64x64_S60x64x64)
    (mulf (matmul dot_S60x64x96_S60x64x96_S60x64x64_2_2_1_1_0_0 none (G.qAt n h) (G.wAt n h) (constant S60x64x64 .f32 0x00000000#32))
      (broadcastTo S60x64x64 (G.qsAt n h) broadcasts_S60x64x1_S60x64x64))
    (broadcast S60x64x64 (Scalar.ofBits .f32 0x00000000#32 : F .f32))

def qa : FVec F S60x64x64 .f32 :=
  matmul dot_S60x64x64_S60x64x64_S60x64x64_2_1_1_2_0_0 none (G.qw n h) (G.inverse n h) (constant S60x64x64 .f32 0x00000000#32)

/-- The queries, reflected back to the chunk's first token. -/
def qhat : FVec F S60x64x96 .f32 :=
  subf (mulf (G.qAt n h) (broadcastTo S60x64x96 (G.qsAt n h) broadcasts_S60x64x1_S60x64x96))
    (matmul dot_S60x64x64_S60x64x96_S60x64x96_2_1_1_2_0_0 none (G.qa n h) (G.wAt n h) (constant S60x64x96 .f32 0x00000000#32))

/-- The scores against the keys of earlier chunks. -/
def past : FVec F S60x64x896 .f32 :=
  matmul dot_S60x64x96_S60x896x96_S60x64x896_2_2_1_1_0_0 none (truncf .bf16 (G.qhat n h) bitsLt_bf16_f32 : FVec F S60x64x96 .bf16)
    (truncf .bf16 y bitsLt_bf16_f32 : FVec F S60x896x96 .bf16) (constant S60x64x896 .f32 0x00000000#32)

/-- The scores against the keys of the same chunk. -/
def own : FVec F S60x64x896 .f32 :=
  subf (mulf (mulf (matmul dot_S60x64x96_S60x896x96_S60x64x896_2_2_1_1_0_0 none (G.qAt n h) (heads G.k) (constant S60x64x896 .f32 0x00000000#32))
      (broadcastTo S60x64x896 (G.qsAt n h) broadcasts_S60x64x1_S60x64x896))
      (broadcastTo S60x64x896 (scalesRow G.ks) broadcasts_S60x1x896_S60x64x896))
    (matmul dot_S60x64x64_S60x64x896_S60x64x896_2_1_1_2_0_0 none (G.qa n h) (G.against n h y) (constant S60x64x896 .f32 0x00000000#32))

def scores : FVec F S60x64x896 .f32 :=
  select (broadcastTo S60x64x896 (shapeCast S1x64x896 (cmpi .slt key (broadcast S64x896 (BitVec.ofNat 32 (64 * n))))
      shapeCasts_S64x896_S1x64x896) broadcasts_S1x64x896_S60x64x896)
    (G.past n h y) (G.own n h y)

/-- The keys, reflected by the chunk. -/
def step : FVec F S60x896x96 .f32 :=
  subf y (matmul dot_S60x64x896_S60x64x96_S60x896x96_1_1_2_2_0_0 none
    (matmul dot_S60x64x64_S60x64x896_S60x64x896_2_1_1_2_0_0 none (G.inverse n h) (G.against n h y) (constant S60x64x896 .f32 0x00000000#32))
    (G.wAt n h) (constant S60x896x96 .f32 0x00000000#32))

end

/-- The keys after the first `n` chunks. -/
def keys : (n : ℕ) → n ≤ 14 → FVec F S60x896x96 .f32
  | 0, _ => G.keys0
  | n + 1, h => G.step n h (keys n (Nat.le_of_succ_le h))

/-- The scores of chunk `n`. -/
def row (n : ℕ) (h : n < 14) : FVec F S60x64x896 .f32 := G.scores n h (G.keys n h.le)

/-! ### The softmax mean -/

/-- The scores of all tokens. -/
def table : FVec F S60x896x896 .f32 :=
  concatenate S60x896x896 1 [⟨S60x64x896, G.row 0 (by decide)⟩,
    ⟨S60x64x896, G.row 1 (by decide)⟩,
    ⟨S60x64x896, G.row 2 (by decide)⟩,
    ⟨S60x64x896, G.row 3 (by decide)⟩,
    ⟨S60x64x896, G.row 4 (by decide)⟩,
    ⟨S60x64x896, G.row 5 (by decide)⟩,
    ⟨S60x64x896, G.row 6 (by decide)⟩,
    ⟨S60x64x896, G.row 7 (by decide)⟩,
    ⟨S60x64x896, G.row 8 (by decide)⟩,
    ⟨S60x64x896, G.row 9 (by decide)⟩,
    ⟨S60x64x896, G.row 10 (by decide)⟩,
    ⟨S60x64x896, G.row 11 (by decide)⟩,
    ⟨S60x64x896, G.row 12 (by decide)⟩,
    ⟨S60x64x896, G.row 13 (by decide)⟩]
    concatenates_S60x64x896_S60x64x896_S60x64x896_S60x64x896_S60x64x896_S60x64x896_S60x64x896_S60x64x896_S60x64x896_S60x64x896_S60x64x896_S60x64x896_S60x64x896_S60x64x896_S60x896x896_d1

/-- The segments, head by head. -/
def segs : IVec S2x30x896 32 :=
  broadcastTo S2x30x896 (shapeCast S2x1x896 (shapeCast S2x1x896 G.seg shapeCasts_S2x896_S2x1x896 : IVec S2x1x896 32) shapeCasts_S2x1x896_S2x1x896)
    broadcasts_S2x1x896_S2x30x896

/-- A token sees the tokens up to itself in its segment. -/
def visible : IVec S60x896x896 1 :=
  andi (broadcastTo S60x896x896 (shapeCast S1x896x896
      (cmpi .sge (iota .tc S896x896 32 [0] iota_S896x896_d0_w32) (iota .tc S896x896 32 [1] iota_S896x896_d1_w32))
      shapeCasts_S896x896_S1x896x896) broadcasts_S1x896x896_S60x896x896)
    (cmpi .eq (broadcastTo S60x896x896 (shapeCast S60x896x1 G.segs shapeCasts_S2x30x896_S60x896x1) broadcasts_S60x896x1_S60x896x896)
      (broadcastTo S60x896x896 (shapeCast S60x1x896 G.segs shapeCasts_S2x30x896_S60x1x896) broadcasts_S60x1x896_S60x896x896))

/-- The scaled scores, those of unseen tokens at minus infinity. -/
def seen : FVec F S60x896x896 .f32 :=
  select G.visible (mulf G.table (broadcast S60x896x896 (Named.named κ "scale" 0x3DD105EC#32 : F .f32)))
    (broadcast S60x896x896 (Scalar.ofBits .f32 0xFF800000#32 : F .f32))

def weights : FVec F S60x896x896 .f32 :=
  exp (subf G.seen (broadcastTo S60x896x896 (shapeCast S60x896x1
    (multiReduction .maximumf [2] S60x896 G.seen 0xFF800000#32 reduces_S60x896x896_S60x896 (.inl rfl) rfl : FVec F S60x896 .f32)
    shapeCasts_S60x896_S60x896x1) broadcasts_S60x896x1_S60x896x896))

def total : FVec F S60x896x1 .f32 :=
  shapeCast S60x896x1 (multiReduction .add [2] S60x896 G.weights 0x00000000#32 reduces_S60x896x896_S60x896 (.inl rfl) rfl : FVec F S60x896 .f32)
    shapeCasts_S60x896_S60x896x1

def values : FVec F S60x896x96 .bf16 :=
  shapeCast S60x896x96 (transpose S2x30x896x96 [0, 2, 1, 3] G.v transposes_S2x896x30x96_p0_2_1_3_S2x30x896x96) shapeCasts_S2x30x896x96_S60x896x96

/-- The result. -/
def result : FVec F S60x896x96 .bf16 :=
  truncf .bf16 (divf (matmul dot_S60x896x896_S60x896x96_S60x896x96_2_1_1_2_0_0 none (truncf .bf16 G.weights bitsLt_bf16_f32 : FVec F S60x896x896 .bf16)
      G.values (constant S60x896x96 .f32 0x00000000#32))
    (broadcastTo S60x896x96 G.total broadcasts_S60x896x1_S60x896x96)) bitsLt_bf16_f32

end Given

open Cert.ReferenceIdeal.Gen in
/-- The body's store holds the result of what it loads. -/
theorem written {F : FTy → Type} [FloatOps F] [Named F] (x0 : Vec F S2x896x30x96 .fp8e4m3) (x1 : Vec F S2x896x30 .f32)
    (x2 : Vec F S2x896x30x96 .fp8e4m3) (x3 : Vec F S2x896x30 .f32) (x4 : Vec F S2x896x30x96 .fp8e4m3) (x5 : Vec F S32x960x128 .f32)
    (x6 : Vec F S2x896x30x96 .bf16) (x7 : Vec F S2x896 .i32) :
    out0_8 x0 x1 x2 x3 x4 x5 x6 x7 = View.canon [⟨r0_4, (Given.mk (View.ld x0 r0_0) (View.ld x1 r0_1) (View.ld x2 r0_0) (View.ld x3 r0_1)
      (View.ld x4 r0_0) (View.ld x5 r0_2) (View.ld x6 r0_0) (View.ld x7 r0_3)).result⟩] := by exact rfl

end Cert.Path
-- ==== Proof.Table.lean ====
/- The reference's chunks, head by head: what its arrays hold of real inputs. -/
module

public import proofs.«01_k».proof.Proof.Keys
public import proofs.«01_k».proof.Proof.Slab
public import proofs.«01_k».proof.Proof.Arrays
public import proofs.«01_k».proof.Proof.Written

@[expose] public section

set_option maxRecDepth 16384

noncomputable section

open scoped BigOperators

namespace Cert.Path

open Idealize.ShloMosaic Cert.ReferenceIdeal Cert.ReferenceIdeal.Facts₀ Cert.ReferenceIdeal.Facts

open Point (Vis pick and_word)

/-- The arguments as the reference loads them. -/
def Args.given (A : Args) : Given Ideal := ⟨A.q, A.qs, A.k, A.ks, A.w, A.b, A.v, A.seg⟩

namespace Given

section
variable {A : Args} (ok : A.Ok) (g : Fin 60)

/-! ### The arrays -/

theorem reals_heads (x : Vec Ideal S2x896x30x96 .fp8e4m3) (hx : Finite x) :
    Reals (slab g (heads x)) fun T e => (x (Args.at4 g T e) : EReal).toReal := fun T e => by
  refine Eq.trans ?_ (hx _)
  rw [Args.at4_eq g T.isLt e.isLt]
  refine (read_heads _ _ _ g T e).trans ?_
  exact congrFun (shapeCast_id x _) _

theorem reads_scales (x : Vec Ideal S2x896x30 .f32) (hx : Finite x) (T : Fin 896) (u : Fin 1) :
    scales x (ix3 g T u) = ((x (Args.at3 g T) : EReal).toReal : EReal) := by
  rw [← hx, Args.at3_eq g T.isLt]
  exact read_scales x _ _ g T u

theorem reads_scalesRow (x : Vec Ideal S2x896x30 .f32) (hx : Finite x) (u : Fin 1) (T : Fin 896) :
    scalesRow x (ix3 g u T) = ((x (Args.at3 g T) : EReal).toReal : EReal) := by
  rw [← hx, Args.at3_eq g T.isLt]
  exact read_scalesRow x _ _ g u T

variable (n : ℕ) (h : n < 14)

include ok in
theorem reals_q : Reals (slab g (A.given.qAt n h)) fun t e => (A.head g).q (64 * n + t) e :=
  (reals_heads g A.q ok.q).rowsOf (rowsOf h)
include ok in
theorem reals_w : Reals (slab g (A.given.wAt n h)) fun t e => (A.head g).w (64 * n + t) e :=
  (reals_heads g A.w ok.w).rowsOf (rowsOf h)
include ok in
theorem reals_qs : Reals (slab g (A.given.qsAt n h)) fun t _ => (A.head g).qs (64 * n + t) :=
  (show Reals (slab g (scales A.qs)) fun T _ => (A.head g).qs T from reads_scales g A.qs ok.qs).rowsOf (rowsOf h)
include ok in
theorem reals_inverse : Reals (slab g (A.given.inverse n h)) ((A.head g).B n) := fun r c => by
  have hr := r.isLt
  have hc := c.isLt
  have hg := g.isLt
  refine Eq.trans ?_ (ok.b _)
  rw [Args.atB_eq g (Nat.mod_lt _ (by decide)) (by omega) (by omega)]
  exact (read_inverse (α := EReal) A.given.inverses n (by omega) (inverseOf h) shapeCasts_S60x1x64x64_S60x64x64 g r c).trans (read_inverses A.b _ _ _ g ⟨n, by omega⟩ r c)

/-! ### The masks -/

theorem causal_iff (i j : Fin 64) :
    broadcastTo S60x64x64 (shapeCast S1x64x64 causal shapeCasts_S64x64_S1x64x64) broadcasts_S1x64x64_S60x64x64 (ix3 g i j) = 1#1 ↔ j.val ≤ i.val := by
  rw [shared _ _ _ (by decide) (by decide)]
  show IntOp.cmpi .sge (iota .tc S64x64 32 [0] _ _) (iota .tc S64x64 32 [1] _ _) = 1#1 ↔ _
  rw [iota_word, iota_word]
  exact word_sge (by have := i.isLt; show i.val < _; omega) (by have := j.isLt; show j.val < _; omega)

include h in
theorem before_iff (i : Fin 64) (j : Fin 896) :
    broadcastTo S60x64x896 (shapeCast S1x64x896 (cmpi .sgt (addi token (broadcast S64x896 (BitVec.ofNat 32 (64 * n)))) key)
      shapeCasts_S64x896_S1x64x896) broadcasts_S1x64x896_S60x64x896 (ix3 g i j) = 1#1 ↔ j.val < 64 * n + i.val := by
  rw [shared _ _ _ (by decide) (by decide)]
  show IntOp.cmpi .sgt (iota .tc S64x896 32 [0] _ _ + BitVec.ofNat 32 (64 * n)) (iota .tc S64x896 32 [1] _ _) = 1#1 ↔ _
  rw [iota_word, iota_word, ← BitVec.ofNat_add, Nat.add_comm (64 * n)]
  exact word_sgt (by have := i.isLt; show i.val + _ < _; omega) (by have := j.isLt; show j.val < _; omega)

include h in
theorem early_iff (i : Fin 64) (j : Fin 896) :
    broadcastTo S60x64x896 (shapeCast S1x64x896 (cmpi .slt key (broadcast S64x896 (BitVec.ofNat 32 (64 * n))))
      shapeCasts_S64x896_S1x64x896) broadcasts_S1x64x896_S60x64x896 (ix3 g i j) = 1#1 ↔ j.val < 64 * n := by
  rw [shared _ _ _ (by decide) (by decide)]
  show IntOp.cmpi .slt (iota .tc S64x896 32 [1] _ _) (BitVec.ofNat 32 (64 * n)) = 1#1 ↔ _
  rw [iota_word]
  exact word_slt (by have := j.isLt; show j.val < _; omega) (by omega)

/-! ### One chunk -/

variable {y : FVec Ideal S60x896x96 .f32} {Y : ℕ → ℕ → ℝ} (hy : Reals (slab g y) Y)

include ok hy in
theorem reals_against : Reals (slab g (A.given.against n h y)) ((A.head g).against n Y) :=
  ((reals_w ok g n h).dot22 dot_S60x64x96_S60x896x96_S60x64x896_2_2_1_1_0_0 rfl hy
    (fun _ _ _ => by funext a; match a with | ⟨0, _⟩ => rfl | ⟨1, _⟩ => rfl | ⟨2, _⟩ => rfl)
    (fun _ _ _ => by funext a; match a with | ⟨0, _⟩ => rfl | ⟨1, _⟩ => rfl | ⟨2, _⟩ => rfl)).keeps
    (p := fun s j => j < 64 * n + s) (before_iff g n h)

include ok in
theorem reals_qw : Reals (slab g (A.given.qw n h)) ((A.head g).qw n) :=
  (((reals_q ok g n h).dot22 dot_S60x64x96_S60x64x96_S60x64x64_2_2_1_1_0_0 rfl (reals_w ok g n h)
    (fun _ _ _ => by funext a; match a with | ⟨0, _⟩ => rfl | ⟨1, _⟩ => rfl | ⟨2, _⟩ => rfl)
    (fun _ _ _ => by funext a; match a with | ⟨0, _⟩ => rfl | ⟨1, _⟩ => rfl | ⟨2, _⟩ => rfl)).muls
    ((reals_qs ok g n h).cols3 (by decide) (by decide) _)).keeps (p := fun t s => s ≤ t) (causal_iff g)

include ok in
theorem reals_qa : Reals (slab g (A.given.qa n h)) ((A.head g).qa n) :=
  (reals_qw ok g n h).dot21 dot_S60x64x64_S60x64x64_S60x64x64_2_1_1_2_0_0 rfl (reals_inverse ok g n h)
    (fun _ _ _ => by funext a; match a with | ⟨0, _⟩ => rfl | ⟨1, _⟩ => rfl | ⟨2, _⟩ => rfl)
    (fun _ _ _ => by funext a; match a with | ⟨0, _⟩ => rfl | ⟨1, _⟩ => rfl | ⟨2, _⟩ => rfl)

include ok in
theorem reals_qhat : Reals (slab g (A.given.qhat n h)) ((A.head g).qhat n) :=
  ((reals_q ok g n h).muls ((reals_qs ok g n h).cols3 (by decide) (by decide) _)).subs
    ((reals_qa ok g n h).dot21 dot_S60x64x64_S60x64x96_S60x64x96_2_1_1_2_0_0 rfl (reals_w ok g n h)
      (fun _ _ _ => by funext a; match a with | ⟨0, _⟩ => rfl | ⟨1, _⟩ => rfl | ⟨2, _⟩ => rfl)
      (fun _ _ _ => by funext a; match a with | ⟨0, _⟩ => rfl | ⟨1, _⟩ => rfl | ⟨2, _⟩ => rfl))

include ok hy in
theorem reals_past : Reals (slab g (A.given.past n h y)) fun t j => ∑ e ∈ Finset.range 96, (A.head g).qhat n t e * Y j e :=
  ((reals_qhat ok g n h).truncs (ψ := .bf16) bitsLt_bf16_f32).dot22 dot_S60x64x96_S60x896x96_S60x64x896_2_2_1_1_0_0 rfl (hy.truncs (ψ := .bf16) bitsLt_bf16_f32)
    (fun _ _ _ => by funext a; match a with | ⟨0, _⟩ => rfl | ⟨1, _⟩ => rfl | ⟨2, _⟩ => rfl)
    (fun _ _ _ => by funext a; match a with | ⟨0, _⟩ => rfl | ⟨1, _⟩ => rfl | ⟨2, _⟩ => rfl)

include ok hy in
theorem reals_own : Reals (slab g (A.given.own n h y)) fun t j =>
    (∑ e ∈ Finset.range 96, (A.head g).q (64 * n + t) e * (A.head g).k j e) * (A.head g).qs (64 * n + t) * (A.head g).ks j
      - ∑ s ∈ Finset.range 64, (A.head g).qa n t s * (A.head g).against n Y s j :=
  ((((reals_q ok g n h).dot22 dot_S60x64x96_S60x896x96_S60x64x896_2_2_1_1_0_0 rfl (reals_heads g A.k ok.k)
      (fun _ _ _ => by funext a; match a with | ⟨0, _⟩ => rfl | ⟨1, _⟩ => rfl | ⟨2, _⟩ => rfl)
      (fun _ _ _ => by funext a; match a with | ⟨0, _⟩ => rfl | ⟨1, _⟩ => rfl | ⟨2, _⟩ => rfl)).muls
      ((reals_qs ok g n h).cols3 (by decide) (by decide) _)).muls
      ((show Reals (slab g (scalesRow A.ks)) fun _ T => (A.head g).ks T from reads_scalesRow g A.ks ok.ks).rows3 (by decide) (by decide) _)).subs
    ((reals_qa ok g n h).dot21 dot_S60x64x64_S60x64x896_S60x64x896_2_1_1_2_0_0 rfl (reals_against ok g n h hy)
      (fun _ _ _ => by funext a; match a with | ⟨0, _⟩ => rfl | ⟨1, _⟩ => rfl | ⟨2, _⟩ => rfl)
      (fun _ _ _ => by funext a; match a with | ⟨0, _⟩ => rfl | ⟨1, _⟩ => rfl | ⟨2, _⟩ => rfl))

include ok hy in
theorem reals_step : Reals (slab g (A.given.step n h y)) ((A.head g).step n Y) :=
  hy.subs (((reals_inverse ok g n h).dot21 dot_S60x64x64_S60x64x896_S60x64x896_2_1_1_2_0_0 rfl (reals_against ok g n h hy)
      (fun _ _ _ => by funext a; match a with | ⟨0, _⟩ => rfl | ⟨1, _⟩ => rfl | ⟨2, _⟩ => rfl)
      (fun _ _ _ => by funext a; match a with | ⟨0, _⟩ => rfl | ⟨1, _⟩ => rfl | ⟨2, _⟩ => rfl)).dot11 dot_S60x64x896_S60x64x96_S60x896x96_1_1_2_2_0_0 rfl (reals_w ok g n h)
      (fun _ _ _ => by funext a; match a with | ⟨0, _⟩ => rfl | ⟨1, _⟩ => rfl | ⟨2, _⟩ => rfl)
      (fun _ _ _ => by funext a; match a with | ⟨0, _⟩ => rfl | ⟨1, _⟩ => rfl | ⟨2, _⟩ => rfl))

end

/-! ### All chunks -/

section
variable {A : Args} (ok : A.Ok) (g : Fin 60)

include ok in
theorem reals_keys : ∀ (n : ℕ) (h : n ≤ 14), Reals (slab g (A.given.keys n h)) ((A.head g).keys n)
  | 0, _ => (reals_heads g A.k ok.k).muls
      ((show Reals (slab g (scales A.ks)) fun T _ => (A.head g).ks T from reads_scales g A.ks ok.ks).cols3 (by decide) (by decide) _)
  | n + 1, h => reals_step ok g n h (reals_keys n (Nat.le_of_succ_le h))

include ok in
theorem reals_row (n : ℕ) (h : n < 14) : Reals (slab g (A.given.row n h)) ((A.head g).score n) :=
  (reals_past ok g n h (reals_keys ok g n h.le)).choose (reals_own ok g n h (reals_keys ok g n h.le)) (p := fun _ j => j < 64 * n) (early_iff g n h)

/-! ### The softmax mean -/

/-- The rows of chunk `n` of the table. -/
theorem table_of (g : Fin 60) (r : (n : ℕ) → n < 14 → (S60x64x896.Idx → EReal)) (hc) (n : ℕ) (h : n < 14) (t : Fin 64) (T j : Fin 896) (hT : T.val = 64 * n + t.val) :
    concatenate S60x896x896 1 [⟨S60x64x896, r 0 (by decide)⟩,
    ⟨S60x64x896, r 1 (by decide)⟩,
    ⟨S60x64x896, r 2 (by decide)⟩,
    ⟨S60x64x896, r 3 (by decide)⟩,
    ⟨S60x64x896, r 4 (by decide)⟩,
    ⟨S60x64x896, r 5 (by decide)⟩,
    ⟨S60x64x896, r 6 (by decide)⟩,
    ⟨S60x64x896, r 7 (by decide)⟩,
    ⟨S60x64x896, r 8 (by decide)⟩,
    ⟨S60x64x896, r 9 (by decide)⟩,
    ⟨S60x64x896, r 10 (by decide)⟩,
    ⟨S60x64x896, r 11 (by decide)⟩,
    ⟨S60x64x896, r 12 (by decide)⟩,
    ⟨S60x64x896, r 13 (by decide)⟩] hc (ix3 g T j) = r n h (ix3 g t j) := by
  refine concatenate_apply_piece (t := S60x896x896) 1 _ hc _ n h S60x64x896 (r n h) ?_ rfl (64 * n) ?_ (ix3 g t j) ?_ ?_
  · clear hc hT
    interval_cases n <;> rfl
  · clear hc hT
    interval_cases n <;> simp only [List.take_succ_cons, List.take_zero, List.map_cons, List.map_nil, List.sum_cons, List.sum_nil] <;> rfl
  · intro b hb
    match b with
    | ⟨0, _⟩ => rfl
    | ⟨1, _⟩ => exact absurd rfl hb
    | ⟨2, _⟩ => rfl
  · exact hT.symm

include ok in
/-- The scores of all tokens. -/
theorem reals_table : Reals (slab g A.given.table) fun T j => (A.head g).score (T / 64) (T % 64) j := fun T j => by
  have hT := T.isLt
  have hn : T.val / 64 < 14 := by omega
  exact (table_of g (fun n h => A.given.row n h)
      concatenates_S60x64x896_S60x64x896_S60x64x896_S60x64x896_S60x64x896_S60x64x896_S60x64x896_S60x64x896_S60x64x896_S60x64x896_S60x64x896_S60x64x896_S60x64x896_S60x64x896_S60x896x896_d1 (T.val / 64) hn ⟨T.val % 64, by omega⟩ T j (Nat.div_add_mod _ _).symm).trans
    (reals_row ok g (T.val / 64) hn _ j)

theorem segs_at (T : Fin 896) : A.given.segs (ix3 (batch g) (inBatch g) T) = A.segment g T :=
  (read_segs A.seg _ _ _ _ _ T).trans (A.segment_eq g T.isLt).symm

theorem segs_column (T : Fin 896) (u : Fin 1) : shapeCast S60x896x1 A.given.segs shapeCasts_S2x30x896_S60x896x1 (ix3 g T u) = A.segment g T := by
  refine (read_byHead A.given.segs _ g T _ ?_).trans (segs_at g T)
  rw [rowMajor_val3 _ (896 * 1) 1 rfl rfl]
  have := u.isLt
  show g.val * (896 * 1) + T.val * 1 + u.val = g.val * 896 + T.val
  omega

theorem segs_row (u : Fin 1) (T : Fin 896) : shapeCast S60x1x896 A.given.segs shapeCasts_S2x30x896_S60x1x896 (ix3 g u T) = A.segment g T := by
  refine (read_byHead A.given.segs _ g T _ ?_).trans (segs_at g T)
  rw [rowMajor_val3 _ (1 * 896) 896 rfl rfl]
  have := u.isLt
  show g.val * (1 * 896) + u.val * 896 + T.val = g.val * 896 + T.val
  omega

theorem visible_iff (T j : Fin 896) : A.given.visible (ix3 g T j) = 1#1 ↔ Vis (A.segment g) T j := by
  show IntOp.andi (broadcastTo S60x896x896 (shapeCast S1x896x896 _ _) _ (ix3 g T j))
    (IntOp.cmpi .eq (broadcastTo S60x896x896 (shapeCast S60x896x1 A.given.segs _) _ (ix3 g T j))
      (broadcastTo S60x896x896 (shapeCast S60x1x896 A.given.segs _) _ (ix3 g T j))) = 1#1 ↔ _
  rw [and_word, word_eq, shared _ _ _ (by decide) (by decide), colsOf _ (by decide) (by decide), rowsAll _ (by decide) (by decide), segs_column, segs_row]
  refine and_congr ?_ Iff.rfl
  show IntOp.cmpi .sge (iota .tc S896x896 32 [0] _ _) (iota .tc S896x896 32 [1] _ _) = 1#1 ↔ _
  rw [iota_word, iota_word]
  exact word_sge (by have := T.isLt; show T.val < _; omega) (by have := j.isLt; show j.val < _; omega)

theorem scale_word : (Named.named (F := Ideal) (φ := .f32) Cert.ReferenceIdeal.κ "scale" 0x3DD105EC#32 : EReal) = (scale : EReal) := by
  exact IdealRules.named_const.ideal_named_scalar _ _ _ _ rfl

variable (A) in
/-- The reference's scores of token `T`. -/
def view (T j : ℕ) : EReal := shown (Vis (A.segment g) T) ((A.head g).score (T / 64) (T % 64)) scale j

/-- A choice between two entries. -/
theorem pick3 {s : Shape} {c : IVec s 1} {x y : FVec Ideal s .f32} {i : s.Idx} {p : Prop} [Decidable p] {a : EReal}
    (hc : c i = 1#1 ↔ p) (hx : x i = a) (hy : y i = ⊥) : select c x y i = if p then a else ⊥ := by
  show (if c i = 1#1 then x i else y i) = _
  by_cases hp : p
  · rw [if_pos (hc.mpr hp), if_pos hp, hx]
  · rw [if_neg (fun h => hp (hc.mp h)), if_neg hp, hy]

include ok in
theorem reals_scaled : Reals (slab g (mulf A.given.table (broadcast S60x896x896 (Named.named κ "scale" 0x3DD105EC#32 : Ideal .f32))))
    fun T j => (A.head g).score (T / 64) (T % 64) j * scale :=
  (reals_table ok g).muls (w := broadcast S60x896x896 (Named.named κ "scale" 0x3DD105EC#32 : Ideal .f32)) (f' := fun _ _ => scale) fun _ _ => scale_word

include ok in
theorem reads_seen : Reads (slab g A.given.seen) (view A g) := fun T j =>
  pick3 (i := ix3 g T j) (visible_iff g T j) (reals_scaled ok g T j) neg_inf_f32

variable (A) in
/-- The reference's softmax weights, before the division. -/
def weight (T j : ℕ) : EReal := Ideal.exp (view A g T j - (Finset.range 896).sup (view A g T))

include ok in
theorem reads_weights : Reads (slab g A.given.weights) (weight A g) := fun T j => by
  refine congrArg₂ (fun a b : EReal => Ideal.exp (a - b)) (reads_seen ok g T j) ?_
  exact (colsOf _ (by decide) (by decide) _ g T j).trans ((column3 _ _ T 0).trans (maxima3 (reads_seen ok g) _ _ _ T))

theorem reads_values : Reads (slab g A.given.values) (A.value g) := fun T e =>
  (read_heads A.v _ _ g T e).trans (A.value_eq g T.isLt e.isLt).symm

include ok in
/-- The reference's result: the mean of the values with the softmax of the shown scores. -/
theorem reads_mean (T : Fin 896) (e : Fin 96) : A.given.result (ix3 g T e) = Ideal.div
    (∑ j ∈ Finset.range 896, weight A g T j * A.value g j e) (∑ j ∈ Finset.range 896, weight A g T j) := by
  refine congrArg₂ Ideal.div ?_ ?_
  · exact reads_contract dot_S60x896x896_S60x896x96_S60x896x96_2_1_1_2_0_0 rfl rfl _ _ (ix3 g T e) (fun k : Fin 896 => ix3 g T k) (fun k : Fin 896 => ix3 g k e)
      (fun _ => by funext a; match a with | ⟨0, _⟩ => rfl | ⟨1, _⟩ => rfl | ⟨2, _⟩ => rfl)
      (fun _ => by funext a; match a with | ⟨0, _⟩ => rfl | ⟨1, _⟩ => rfl | ⟨2, _⟩ => rfl)
      (weight A g T) (fun j => A.value g j e) (fun j => reads_weights ok g T j) (fun j => reads_values g j e)
  · exact (colsOf _ (by decide) (by decide) _ g T e).trans ((column3 _ _ T 0).trans (sums3 (reads_weights ok g) _ _ _ T))

end

end Given

end Cert.Path
-- ==== Proof.ReferenceArray.lean ====
/- The reference's result array: the body's result of the arguments as launched. -/
module

public import proofs.«01_k».proof.Proof.Table
public import proofs.«01_k».proof.Proof.Written
public import proofs.«01_k».proof.Proof.ReferenceRun
public import Idealize.ShloMosaic.Lib.Pipeline.ValueKit

@[expose] public section

set_option maxRecDepth 16384

noncomputable section

open scoped BigOperators

namespace Cert.Path

open Idealize.ShloMosaic Idealize.ShloMosaic.TcCoe Idealize.SL.Sem Cert.ReferenceIdeal Cert.ReferenceIdeal.Gen
open Idealize.ShloMosaic.StableHlo

variable (m : (ℓ : Loc nD τ sig) → Buf (Elt Ideal) ℓ) (c : Dev nD)

/-- The reference's arguments in the memory at launch. -/
def referenceArgs : Args where
  q := m ((c : Thread nD τ).loc main_arg0)
  qs := m ((c : Thread nD τ).loc main_arg1)
  k := m ((c : Thread nD τ).loc main_arg2)
  ks := m ((c : Thread nD τ).loc main_arg3)
  w := m ((c : Thread nD τ).loc main_arg4)
  b := m ((c : Thread nD τ).loc main_arg5)
  v := m ((c : Thread nD τ).loc main_arg6)
  seg := m ((c : Thread nD τ).loc main_arg7)

/-- The one grid point. -/
def onePoint : Fin cfg0.N := ⟨0, by decide⟩

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

theorem whole0 : iblk m c 0 onePoint = (referenceArgs m c).q := by
  have hz : (fun a => (win0_0.index onePoint) a * main_v0.ty.shape.size a) = fun _ => 0 := funext fun a => by fin_cases a <;> decide
  unfold iblk
  refine (Memref.read_access_unit_zero (Elt Ideal) main_v0 hz (fun a => by fin_cases a <;> decide) _).trans ?_
  show StableHlo.after hostOps0 _ (Proc.devRef .tc main_v0) = _
  after_results
  rfl

theorem whole1 : iblk m c 1 onePoint = (referenceArgs m c).qs := by
  have hz : (fun a => (win0_1.index onePoint) a * main_arg1.ty.shape.size a) = fun _ => 0 := funext fun a => by fin_cases a <;> decide
  unfold iblk
  refine (Memref.read_access_unit_zero (Elt Ideal) main_arg1 hz (fun a => by fin_cases a <;> decide) _).trans ?_
  exact V_main_arg1 m c

theorem whole2 : iblk m c 2 onePoint = (referenceArgs m c).k := by
  have hz : (fun a => (win0_2.index onePoint) a * main_v1.ty.shape.size a) = fun _ => 0 := funext fun a => by fin_cases a <;> decide
  unfold iblk
  refine (Memref.read_access_unit_zero (Elt Ideal) main_v1 hz (fun a => by fin_cases a <;> decide) _).trans ?_
  show StableHlo.after hostOps0 _ (Proc.devRef .tc main_v1) = _
  after_results
  rfl

theorem whole3 : iblk m c 3 onePoint = (referenceArgs m c).ks := by
  have hz : (fun a => (win0_3.index onePoint) a * main_arg3.ty.shape.size a) = fun _ => 0 := funext fun a => by fin_cases a <;> decide
  unfold iblk
  refine (Memref.read_access_unit_zero (Elt Ideal) main_arg3 hz (fun a => by fin_cases a <;> decide) _).trans ?_
  exact V_main_arg3 m c

theorem whole4 : iblk m c 4 onePoint = (referenceArgs m c).w := by
  have hz : (fun a => (win0_4.index onePoint) a * main_v2.ty.shape.size a) = fun _ => 0 := funext fun a => by fin_cases a <;> decide
  unfold iblk
  refine (Memref.read_access_unit_zero (Elt Ideal) main_v2 hz (fun a => by fin_cases a <;> decide) _).trans ?_
  show StableHlo.after hostOps0 _ (Proc.devRef .tc main_v2) = _
  after_results
  rfl

theorem whole5 : iblk m c 5 onePoint = (referenceArgs m c).b := by
  have hz : (fun a => (win0_5.index onePoint) a * main_arg5.ty.shape.size a) = fun _ => 0 := funext fun a => by fin_cases a <;> decide
  unfold iblk
  refine (Memref.read_access_unit_zero (Elt Ideal) main_arg5 hz (fun a => by fin_cases a <;> decide) _).trans ?_
  exact V_main_arg5 m c

theorem whole6 : iblk m c 6 onePoint = (referenceArgs m c).v := by
  have hz : (fun a => (win0_6.index onePoint) a * main_arg6.ty.shape.size a) = fun _ => 0 := funext fun a => by fin_cases a <;> decide
  unfold iblk
  refine (Memref.read_access_unit_zero (Elt Ideal) main_arg6 hz (fun a => by fin_cases a <;> decide) _).trans ?_
  exact V_main_arg6 m c

theorem whole7 : iblk m c 7 onePoint = (referenceArgs m c).seg := by
  have hz : (fun a => (win0_7.index onePoint) a * main_arg7.ty.shape.size a) = fun _ => 0 := funext fun a => by fin_cases a <;> decide
  unfold iblk
  refine (Memref.read_access_unit_zero (Elt Ideal) main_arg7 hz (fun a => by fin_cases a <;> decide) _).trans ?_
  exact V_main_arg7 m c

/-- The body's store and loads are of whole buffers. -/
theorem body_result (A : Args) : out0_8 (F := Ideal) A.q A.qs A.k A.ks A.w A.b A.v A.seg = A.given.result := by
  rw [written, View.canon_unit_zero zero3, View.ld_unit_zero zero4, View.ld_unit_zero zero3, View.ld_unit_zero zero4, View.ld_unit_zero zero3,
    View.ld_unit_zero zero4, View.ld_unit_zero zero3, View.ld_unit_zero zero4, View.ld_unit_zero zero2]
  rfl

/-- The result array. -/
theorem reference_array : (dats m 0 c).arrAt 8 cfg0.N = (referenceArgs m c).given.result := by
  have hz : (fun a => (win0_8.index onePoint) a * main_v3.ty.shape.size a) = fun _ => 0 := funext fun a => by fin_cases a <;> decide
  have ho := Run.blocks m c onePoint (by decide)
  have hr := fun f => Memref.read_access_unit_zero (Elt Ideal) main_v3 hz (fun a => by fin_cases a <;> decide) f
  rw [hr, Run.flushed, whole0, whole1, whole2, whole3, whole4, whole5, whole6, whole7] at ho
  refine ho.trans ?_
  rw [body_result]
  rfl

end Cert.Path
-- ==== Proof.Equal.lean ====
/- The two programs' results agree on finite arguments. -/
module

public import proofs.«01_k».proof.Proof.KernelArray
public import proofs.«01_k».proof.Proof.ReferenceArray
public import proofs.«01_k».proof.Pre_finite

@[expose] public section

set_option maxRecDepth 16384

noncomputable section

open scoped BigOperators

namespace Cert.Path

open Idealize.ShloMosaic Idealize.ShloMosaic.TcCoe Idealize.SL.Sem

/-! ### The precondition -/

theorem inf_f32 : Ideal.ofBits .f32 0x7F800000#32 = ⊤ := by
  simp [Ideal.ofBits, Ideal.ieee]

/-- An entry whose absolute value is below infinity is a real number. -/
theorem real_of_lt {x : EReal} (h : max x (-x) < ⊤) : x = (x.toReal : EReal) := by
  refine (EReal.coe_toReal ?_ ?_).symm
  · rintro rfl
    exact absurd h (by simp)
  · rintro rfl
    exact absurd h (by simp)

theorem finite_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32 : FVec Ideal ⟨0, ![]⟩ .f32)) = fun _ => 1#1) :
    Finite x := fun i => by
  have h1 : Ideal.cmp .olt (max (x i) (-(x i))) (Ideal.ofBits .f32 0x7F800000#32) = 1#1 := congrFun h i
  rw [inf_f32] at h1
  refine real_of_lt ?_
  by_contra hn
  have h0 : Ideal.cmp .olt (max (x i) (-(x i))) ⊤ = 0#1 := by
    unfold Ideal.cmp
    rw [decide_eq_false hn]
    rfl
  rw [h0] at h1
  exact absurd h1 (by decide)

/-- The precondition is that the codes, the scales and the chunk inverses are finite. -/
theorem ok_of [Cert.Pre_finite.Facts] (A : Args)
    (h : (Cert.Pre_finite.fn (F := Ideal) A.q A.qs A.k A.ks A.w A.b A.v A.seg).1 = (fun _ => 1#1)
      ∧ (Cert.Pre_finite.fn (F := Ideal) A.q A.qs A.k A.ks A.w A.b A.v A.seg).2.1 = (fun _ => 1#1)
      ∧ (Cert.Pre_finite.fn (F := Ideal) A.q A.qs A.k A.ks A.w A.b A.v A.seg).2.2.1 = (fun _ => 1#1)
      ∧ (Cert.Pre_finite.fn (F := Ideal) A.q A.qs A.k A.ks A.w A.b A.v A.seg).2.2.2.1 = (fun _ => 1#1)
      ∧ (Cert.Pre_finite.fn (F := Ideal) A.q A.qs A.k A.ks A.w A.b A.v A.seg).2.2.2.2.1 = (fun _ => 1#1)
      ∧ (Cert.Pre_finite.fn (F := Ideal) A.q A.qs A.k A.ks A.w A.b A.v A.seg).2.2.2.2.2 = (fun _ => 1#1)) : A.Ok := by
  obtain ⟨h1, h2, h3, h4, h5, h6⟩ := h
  exact ⟨finite_of _ _ h1, finite_of _ _ h2, finite_of _ _ h3, finite_of _ _ h4, finite_of _ _ h5, finite_of _ _ h6⟩

/-! ### The equation -/

/-- The kernel's result array is the reference's function of its arguments. -/
theorem arrays_eq (m : (ℓ : Loc Cert.KernelIdeal.nD Cert.KernelIdeal.τ Cert.KernelIdeal.sig) → Buf (Elt Ideal) ℓ) (c : Dev Cert.KernelIdeal.nD)
    (ok : (kernelArgs m c).Ok) :
    (Cert.KernelIdeal.Gen.dats m 0 c).arrAt 9 Cert.KernelIdeal.cfg0.N = (kernelArgs m c).given.result := by
  funext x
  obtain ⟨g, T, e, rfl⟩ : ∃ (g : Fin 60) (T : Fin 896) (e : Fin 96), x = ix3 g T e :=
    ⟨x 0, x 1, x 2, by funext a; match a with | ⟨0, _⟩ => rfl | ⟨1, _⟩ => rfl | ⟨2, _⟩ => rfl⟩
  have hT := T.isLt
  have hk : T.val / 64 < 14 := by omega
  have hTd : T.val = 64 * (T.val / 64) + T.val % 64 := by omega
  refine (kernel_entry m c ok g (T.val / 64) hk ⟨T.val % 64, by omega⟩ T e hTd).trans
    (Eq.trans ?_ (Given.reads_mean ok g T e).symm)
  have hv : ∀ j, Point.Vis ((kernelArgs m c).segment g) T.val j → j < 64 * (T.val / 64 + 1) := fun j h => by
    have := h.1
    omega
  have hm := mean_eq (Point.Vis ((kernelArgs m c).segment g) T.val) (((kernelArgs m c).head g).score (T.val / 64) (T.val % 64))
    (N := 64 * (T.val / 64 + 1)) (by omega) hv ⟨T.val, le_refl _, rfl⟩ (fun j => (kernelArgs m c).value g j e.val)
  unfold Point.sc
  rw [← hTd]
  exact hm

end Cert.Path
-- ==== Proof.lean ====
/- The proof of the certificate's claims: the frames, the idealizations, and the equality of the kernel's and the reference's
   results on finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite
public import proofs.«01_k».proof.Proof.KernelRun
public import proofs.«01_k».proof.Proof.ReferenceRun
public import proofs.«01_k».proof.Proof.Equal
public import Idealize.ShloMosaic.Adequacy
public import Idealize.ShloMosaic.Init

@[expose] public section

noncomputable section

namespace Cert.Proof

open Idealize.ShloMosaic Idealize.SL.Sem

/-- The kernel and the reference, run from memories with the same finite arguments, end with the same results. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  letI := Cert.Pre_finite.Gen.facts
  intro m g m' g' hpre hargs
  refine ⟨fun c => Cert.KernelIdeal.Run.byToken (F := Ideal) ((Cert.KernelIdeal.Gen.dats m 0 c).arrAt 9 Cert.KernelIdeal.cfg0.N), Cert.KernelIdeal.Run.run m g, ?_⟩
  refine (θ_run _ _ _).mono (fun r h c => ⟨(h c).1.trans ?_, (h c).2⟩) (Cert.ReferenceIdeal.Run.run m' g')
  have ok : (Cert.Path.kernelArgs m c).Ok := Cert.Path.ok_of _ (hpre c)
  obtain ⟨h0, h1, h2, h3, h4, h5, h6, h7⟩ := hargs c
  have ha : Cert.Path.referenceArgs m' c = Cert.Path.kernelArgs m c := by
    unfold Cert.Path.referenceArgs Cert.Path.kernelArgs
    rw [h0, h1, h2, h3, h4, h5, h6, h7]
  rw [Cert.Path.reference_array m' c, ha]
  exact congrArg (Cert.KernelIdeal.Run.byToken (F := Ideal)) (Cert.Path.arrays_eq m c ok).symm

theorem claim : Cert.Claim := ⟨Cert.Kernel.Gen.facts, Cert.KernelIdeal.Gen.facts, Cert.ReferenceIdeal.Gen.facts, Cert.Reference.Gen.facts,
  Cert.Pre_finite.Gen.facts, fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ, fun m ρ _ => Cert.ReferenceIdeal.Gen.frame m ρ,
  fun m ρ _ => Cert.Reference.Gen.frame m ρ, IdealRules.named_const.statement Cert.KernelIdeal.κ "scale_log2e" .f32 0x3E16C740#32 _ rfl,
  IdealRules.named_const.statement Cert.ReferenceIdeal.κ "scale" .f32 0x3DD105EC#32 _ rfl, algebraic⟩

end Cert.Proof

end
